-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gestures [hPre_gestures : Cert.Pre_gestures.Facts] (m : (ℓ : Loc Cert.KernelIdeal.nD Cert.KernelIdeal.τ Cert.KernelIdeal.sig) → Buf (Elt Ideal) ℓ) : Prop :=
  ∀ c : Dev Cert.KernelIdeal.nD,
    (Cert.Pre_gestures.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gestures [hPre_gestures : Cert.Pre_gestures.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gestures.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gestures [hKernelIdeal : Cert.KernelIdeal.Facts] [hPre_gestures : Cert.Pre_gestures.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gestures m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gestures [hReferenceIdeal : Cert.ReferenceIdeal.Facts] [hPre_gestures : Cert.Pre_gestures.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gestures m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_gestures [hKernelIdeal : Cert.KernelIdeal.Facts] [hReferenceIdeal : Cert.ReferenceIdeal.Facts] [hPre_gestures : Cert.Pre_gestures.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gestures m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_gestures : Cert.Pre_gestures.Facts),
    quiescent_Kernel (hKernel := hKernel)
    ∧ quiescent_KernelIdeal (hKernelIdeal := hKernelIdeal)
    ∧ quiescent_KernelIdeal_pre_gestures (hKernelIdeal := hKernelIdeal) (hPre_gestures := hPre_gestures)
    ∧ quiescent_ReferenceIdeal (hReferenceIdeal := hReferenceIdeal)
    ∧ quiescent_ReferenceIdeal_pre_gestures (hReferenceIdeal := hReferenceIdeal) (hPre_gestures := hPre_gestures)
    ∧ preserves_Kernel_KernelIdeal
    ∧ algebraic_KernelIdeal_ReferenceIdeal_pre_gestures (hKernelIdeal := hKernelIdeal) (hReferenceIdeal := hReferenceIdeal) (hPre_gestures := hPre_gestures)
-- ==== Pre_gestures.lean ====
abbrev S8192x2048x1 : Shape := ⟨3, ![8192, 2048, 1]⟩
abbrev S1 : Shape := ⟨1, ![1]⟩
abbrev S_ : Shape := ⟨0, ![]⟩

class Facts : Prop where
  bcast_S_S8192x2048x1 : S_.BroadcastsInDim S8192x2048x1 (![] : Fin 0 → Fin S8192x2048x1.rank)
  reducesTo_S8192x2048x1_S_d0_1_2 : S8192x2048x1.ReducesTo [0, 1, 2] S_
  h_S_ : 0 < S_.numel

variable [Facts]

def fn {F : FTy → Type} [FloatOps F] (main_arg0 : IVec S8192x2048x1 32) (main_arg1 : FVec F S1 .f32) (main_arg2 : FVec F S1 .f32) (main_arg3 : FVec F S1 .f32) : IVec S_ 1 :=
  let main_c : IVec S_ 32 := constantI S_ 32 0#32
  let main_v0 : IVec S8192x2048x1 32 := broadcastInDim S8192x2048x1 ![] bcast_S_S8192x2048x1 main_c
  let main_v1 : IVec S8192x2048x1 1 := cmpi .sge main_arg0 main_v0
  let main_c_0 : IVec S_ 32 := constantI S_ 32 3#32
  let main_v2 : IVec S8192x2048x1 32 := broadcastInDim S8192x2048x1 ![] bcast_S_S8192x2048x1 main_c_0
  let main_v3 : IVec S8192x2048x1 1 := cmpi .slt main_arg0 main_v2
  let main_v4 : IVec S8192x2048x1 1 := andi main_v1 main_v3
  let main_c_1 : IVec S_ 1 := constantI S_ 1 1#1
  let main_v5 : IVec S_ 1 := (fun x v => Host.reduce IntOp.andi x v reducesTo_S8192x2048x1_S_d0_1_2 h_S_) main_v4 main_c_1
  main_v5
-- ==== Kernel.lean ====
abbrev S8192x2048x1 : Shape := ⟨3, ![8192, 2048, 1]⟩
abbrev S1 : Shape := ⟨1, ![1]⟩
abbrev S16777216 : Shape := ⟨1, ![16777216]⟩
abbrev S16 : Shape := ⟨1, ![16]⟩
abbrev S1x16 : Shape := ⟨2, ![1, 16]⟩
abbrev S3x16 : Shape := ⟨2, ![3, 16]⟩
abbrev S4096 : Shape := ⟨1, ![4096]⟩
abbrev S32768 : Shape := ⟨1, ![32768]⟩
abbrev S128 : Shape := ⟨1, ![128]⟩
abbrev S_ : Shape := ⟨0, ![]⟩
abbrev S2097152 : Shape := ⟨1, ![2097152]⟩
abbrev S1024 : Shape := ⟨1, ![1024]⟩
abbrev S1024x2048 : Shape := ⟨2, ![1024, 2048]⟩
abbrev S1x1 : Shape := ⟨2, ![1, 1]⟩
abbrev S8192 : Shape := ⟨1, ![8192]⟩
abbrev S8192x1 : Shape := ⟨2, ![8192, 1]⟩

abbrev nBuf : Table → Nat
  | .hbm => 16
  | .local .tc .vmem => 5
  | .local .scVector .vmem => 4
  | _ => 0

abbrev bufTy : (tb : Table) → Fin (nBuf tb) → BufTy
  | .hbm, ⟨0, _⟩ => ⟨S8192x2048x1, .i32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S16777216, .i32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S3x16, .f32⟩
  | .hbm, ⟨12, _⟩ => ⟨S4096, .f32⟩
  | .hbm, ⟨13, _⟩ => ⟨S4096, .f32⟩
  | .hbm, ⟨14, _⟩ => ⟨S8192, .f32⟩
  | .hbm, ⟨15, _⟩ => ⟨S8192x1, .f32⟩
  | .local .tc .vmem, ⟨0, _⟩ => ⟨S2097152, .i32⟩
  | .local .tc .vmem, ⟨1, _⟩ => ⟨S2097152, .i32⟩
  | .local .tc .vmem, ⟨2, _⟩ => ⟨S3x16, .f32⟩
  | .local .tc .vmem, ⟨3, _⟩ => ⟨S1024, .f32⟩
  | .local .tc .vmem, ⟨4, _⟩ => ⟨S1024, .f32⟩
  | .local .scVector .vmem, ⟨0, _⟩ => ⟨S32768, .i32⟩
  | .local .scVector .vmem, ⟨1, _⟩ => ⟨S32768, .i32⟩
  | .local .scVector .vmem, ⟨2, _⟩ => ⟨S3x16, .f32⟩
  | .local .scVector .vmem, ⟨3, _⟩ => ⟨S128, .f32⟩
  | _, _ => ⟨S8192x2048x1, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v0_scv : Ref sig .scVector := ⟨.hbm, 4, rfl⟩
abbrev main_v7_scv : Ref sig .scVector := ⟨.hbm, 11, rfl⟩
abbrev main_v8_scv : Ref sig .scVector := ⟨.hbm, 12, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2048_i32 : BitVec 32 := 2048#32
  let v3 : BitVec 32 := Scalar.muli v2 c2048_i32
  ![v3.toNat]
def k0_off2 (i : grid0.Coords) (c16_i32_6 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let v20 : BitVec 32 := Scalar.addi v2 c16_i32_6
  let c2048_i32_7 : BitVec 32 := 2048#32
  let v21 : BitVec 32 := Scalar.muli v20 c2048_i32_7
  ![v21.toNat]
@[reducible] def k0_t1_loop : Scf.Loop 32 :=
  let c0_i32_9 : BitVec 32 := 0#32
  let c128_i32_10 : BitVec 32 := 128#32
  let v25 : BitVec 32 := Scalar.addi c0_i32_9 c128_i32_10
  let c1_i32_11 : BitVec 32 := 1#32
  ⟨c0_i32_9, v25, c1_i32_11⟩
def k0_off3 (k0_t1 : Fin k0_t1_loop.trips) (c0_i32_458 : BitVec 32) : Fin 1 → Nat :=
  let c0_i32_9 : BitVec 32 := 0#32
  let c1_i32_11 : BitVec 32 := 1#32
  let arg11 : BitVec 32 := Scf.iv c0_i32_9 c1_i32_11 k0_t1
  let c16_i32_457 : BitVec 32 := 16#32
  let v1878 : BitVec 32 := Scalar.muli arg11 c16_i32_457
  let v1879 : BitVec 32 := Scalar.addi v1878 c0_i32_458
  let v1880 : Index := Scalar.indexCast v1879
  ![v1880.toNat]
@[reducible] def k0_t2_loop : Scf.Loop 32 :=
  let c0_i32_54 : BitVec 32 := 0#32
  let c128_i32_55 : BitVec 32 := 128#32
  let v258 : BitVec 32 := Scalar.addi c0_i32_54 c128_i32_55
  let c1_i32_56 : BitVec 32 := 1#32
  ⟨c0_i32_54, v258, c1_i32_56⟩
def k0_off4 (k0_t2 : Fin k0_t2_loop.trips) (c0_i32_458 : BitVec 32) : Fin 1 → Nat :=
  let c0_i32_54 : BitVec 32 := 0#32
  let c1_i32_56 : BitVec 32 := 1#32
  let arg11 : BitVec 32 := Scf.iv c0_i32_54 c1_i32_56 k0_t2
  let c16_i32_457 : BitVec 32 := 16#32
  let v1878 : BitVec 32 := Scalar.muli arg11 c16_i32_457
  let v1879 : BitVec 32 := Scalar.addi v1878 c0_i32_458
  let v1880 : Index := Scalar.indexCast v1879
  ![v1880.toNat]
@[reducible] def k0_t3_loop : Scf.Loop 32 :=
  let c0_i32_112 : BitVec 32 := 0#32
  let c128_i32_113 : BitVec 32 := 128#32
  let v491 : BitVec 32 := Scalar.addi c0_i32_112 c128_i32_113
  let c1_i32_114 : BitVec 32 := 1#32
  ⟨c0_i32_112, v491, c1_i32_114⟩
def k0_off5 (k0_t3 : Fin k0_t3_loop.trips) (c0_i32_458 : BitVec 32) : Fin 1 → Nat :=
  let c0_i32_112 : BitVec 32 := 0#32
  let c1_i32_114 : BitVec 32 := 1#32
  let arg11 : BitVec 32 := Scf.iv c0_i32_112 c1_i32_114 k0_t3
  let c16_i32_457 : BitVec 32 := 16#32
  let v1878 : BitVec 32 := Scalar.muli arg11 c16_i32_457
  let v1879 : BitVec 32 := Scalar.addi v1878 c0_i32_458
  let v1880 : Index := Scalar.indexCast v1879
  ![v1880.toNat]
@[reducible] def k0_t4_loop : Scf.Loop 32 :=
  let c0_i32_170 : BitVec 32 := 0#32
  let c128_i32_171 : BitVec 32 := 128#32
  let v724 : BitVec 32 := Scalar.addi c0_i32_170 c128_i32_171
  let c1_i32_172 : BitVec 32 := 1#32
  ⟨c0_i32_170, v724, c1_i32_172⟩
def k0_off6 (k0_t4 : Fin k0_t4_loop.trips) (c0_i32_458 : BitVec 32) : Fin 1 → Nat :=
  let c0_i32_170 : BitVec 32 := 0#32
  let c1_i32_172 : BitVec 32 := 1#32
  let arg11 : BitVec 32 := Scf.iv c0_i32_170 c1_i32_172 k0_t4
  let c16_i32_457 : BitVec 32 := 16#32
  let v1878 : BitVec 32 := Scalar.muli arg11 c16_i32_457
  let v1879 : BitVec 32 := Scalar.addi v1878 c0_i32_458
  let v1880 : Index := Scalar.indexCast v1879
  ![v1880.toNat]
@[reducible] def k0_t5_loop : Scf.Loop 32 :=
  let c0_i32_228 : BitVec 32 := 0#32
  let c128_i32_229 : BitVec 32 := 128#32
  let v957 : BitVec 32 := Scalar.addi c0_i32_228 c128_i32_229
  let c1_i32_230 : BitVec 32 := 1#32
  ⟨c0_i32_228, v957, c1_i32_230⟩
def k0_off7 (k0_t5 : Fin k0_t5_loop.trips) (c0_i32_458 : BitVec 32) : Fin 1 → Nat :=
  let c0_i32_228 : BitVec 32 := 0#32
  let c1_i32_230 : BitVec 32 := 1#32
  let arg11 : BitVec 32 := Scf.iv c0_i32_228 c1_i32_230 k0_t5
  let c16_i32_457 : BitVec 32 := 16#32
  let v1878 : BitVec 32 := Scalar.muli arg11 c16_i32_457
  let v1879 : BitVec 32 := Scalar.addi v1878 c0_i32_458
  let v1880 : Index := Scalar.indexCast v1879
  ![v1880.toNat]
@[reducible] def k0_t6_loop : Scf.Loop 32 :=
  let c0_i32_286 : BitVec 32 := 0#32
  let c128_i32_287 : BitVec 32 := 128#32
  let v1190 : BitVec 32 := Scalar.addi c0_i32_286 c128_i32_287
  let c1_i32_288 : BitVec 32 := 1#32
  ⟨c0_i32_286, v1190, c1_i32_288⟩
def k0_off8 (k0_t6 : Fin k0_t6_loop.trips) (c0_i32_458 : BitVec 32) : Fin 1 → Nat :=
  let c0_i32_286 : BitVec 32 := 0#32
  let c1_i32_288 : BitVec 32 := 1#32
  let arg11 : BitVec 32 := Scf.iv c0_i32_286 c1_i32_288 k0_t6
  let c16_i32_457 : BitVec 32 := 16#32
  let v1878 : BitVec 32 := Scalar.muli arg11 c16_i32_457
  let v1879 : BitVec 32 := Scalar.addi v1878 c0_i32_458
  let v1880 : Index := Scalar.indexCast v1879
  ![v1880.toNat]
@[reducible] def k0_t7_loop : Scf.Loop 32 :=
  let c0_i32_344 : BitVec 32 := 0#32
  let c128_i32_345 : BitVec 32 := 128#32
  let v1423 : BitVec 32 := Scalar.addi c0_i32_344 c128_i32_345
  let c1_i32_346 : BitVec 32 := 1#32
  ⟨c0_i32_344, v1423, c1_i32_346⟩
def k0_off9 (k0_t7 : Fin k0_t7_loop.trips) (c0_i32_458 : BitVec 32) : Fin 1 → Nat :=
  let c0_i32_344 : BitVec 32 := 0#32
  let c1_i32_346 : BitVec 32 := 1#32
  let arg11 : BitVec 32 := Scf.iv c0_i32_344 c1_i32_346 k0_t7
  let c16_i32_457 : BitVec 32 := 16#32
  let v1878 : BitVec 32 := Scalar.muli arg11 c16_i32_457
  let v1879 : BitVec 32 := Scalar.addi v1878 c0_i32_458
  let v1880 : Index := Scalar.indexCast v1879
  ![v1880.toNat]
@[reducible] def k0_t8_loop : Scf.Loop 32 :=
  let c0_i32_401 : BitVec 32 := 0#32
  let c128_i32_402 : BitVec 32 := 128#32
  let v1652 : BitVec 32 := Scalar.addi c0_i32_401 c128_i32_402
  let c1_i32_403 : BitVec 32 := 1#32
  ⟨c0_i32_401, v1652, c1_i32_403⟩
def k0_off10 (k0_t8 : Fin k0_t8_loop.trips) (c0_i32_458 : BitVec 32) : Fin 1 → Nat :=
  let c0_i32_401 : BitVec 32 := 0#32
  let c1_i32_403 : BitVec 32 := 1#32
  let arg11 : BitVec 32 := Scf.iv c0_i32_401 c1_i32_403 k0_t8
  let c16_i32_457 : BitVec 32 := 16#32
  let v1878 : BitVec 32 := Scalar.muli arg11 c16_i32_457
  let v1879 : BitVec 32 := Scalar.addi v1878 c0_i32_458
  let v1880 : Index := Scalar.indexCast v1879
  ![v1880.toNat]
def k0_off11 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  ![v2.toNat]
abbrev grid1 : Pipeline.Grid := ⟨1, ![4], ![false]⟩

def cc1_transform_0 (i : grid1.Coords) : Fin 1 → Nat :=
  let arg0 : BitVec 32 := BitVec.ofNat 32 (i 0).val
  let c4_i32 : BitVec 32 := 4#32
  let v0 : BitVec 32 := Scalar.addi arg0 c4_i32
  let c0_i32 : BitVec 32 := 0#32
  ![v0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S2097152 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x2048x1 : Shape := ⟨3, ![8192, 2048, 1]⟩
abbrev S1 : Shape := ⟨1, ![1]⟩
abbrev S8192x2048 : Shape := ⟨2, ![8192, 2048]⟩
abbrev S1x1x3 : Shape := ⟨3, ![1, 1, 3]⟩
abbrev S8192x2048x3 : Shape := ⟨3, ![8192, 2048, 3]⟩
abbrev S_ : Shape := ⟨0, ![]⟩
abbrev S8192x3 : Shape := ⟨2, ![8192, 3]⟩
abbrev S8192x1x3 : Shape := ⟨3, ![8192, 1, 3]⟩
abbrev S8192x1 : Shape := ⟨2, ![8192, 1]⟩
abbrev S8192x1x1 : Shape := ⟨3, ![8192, 1, 1]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048x1, .i32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S8192x2048, .i32⟩
  | .hbm, ⟨5, _⟩ => ⟨S8192x2048x1, .i32⟩
  | .hbm, ⟨6, _⟩ => ⟨S1x1x3, .i32⟩
  | .hbm, ⟨7, _⟩ => ⟨S8192x2048x3, .i32⟩
  | .hbm, ⟨8, _⟩ => ⟨S8192x2048x3, .i32⟩
  | .hbm, ⟨9, _⟩ => ⟨S8192x2048x3, .i1⟩
  | .hbm, ⟨10, _⟩ => ⟨S8192x2048x3, .f32⟩
  | .hbm, ⟨11, _⟩ => ⟨S_, .f32⟩
  | .hbm, ⟨12, _⟩ => ⟨S8192x3, .f32⟩
  | .hbm, ⟨13, _⟩ => ⟨S8192x1x3, .f32⟩
  | .hbm, ⟨14, _⟩ => ⟨S_, .f32⟩
  | .hbm, ⟨15, _⟩ => ⟨S8192x1, .f32⟩
  | .hbm, ⟨16, _⟩ => ⟨S8192x1x1, .f32⟩
  | .hbm, ⟨17, _⟩ => ⟨S_, .f32⟩
  | .hbm, ⟨18, _⟩ => ⟨S8192x1x1, .f32⟩
  | .hbm, ⟨19, _⟩ => ⟨S8192x1x1, .f32⟩
  | .hbm, ⟨20, _⟩ => ⟨S8192x1x3, .f32⟩
  | .hbm, ⟨21, _⟩ => ⟨S8192x1x3, .f32⟩
  | .hbm, ⟨22, _⟩ => ⟨S8192x1x1, .f32⟩
  | .hbm, ⟨23, _⟩ => ⟨S8192x1, .f32⟩
  | .hbm, ⟨24, _⟩ => ⟨S8192x1x1, .f32⟩
  | .hbm, ⟨25, _⟩ => ⟨S8192x1, .f32⟩
  | .hbm, ⟨26, _⟩ => ⟨S8192x1x1, .f32⟩
  | .hbm, ⟨27, _⟩ => ⟨S8192x1, .f32⟩
  | .hbm, ⟨28, _⟩ => ⟨S1x1, .f32⟩
  | .hbm, ⟨29, _⟩ => ⟨S8192x1, .f32⟩
  | .hbm, ⟨30, _⟩ => ⟨S8192x1, .f32⟩
  | .hbm, ⟨31, _⟩ => ⟨S1x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S1x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | _, _ => ⟨S8192x2048x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_cst_9 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v44 : Ref sig .tc := ⟨.hbm, 69, rfl⟩

abbrev nD : Nat := 1
abbrev τ : Topo := Topo.v7x

variable {F : FTy → Type} [FloatOps F]
-- ==== Proof.Setup.lean ====
/-
  The program `KernelIdeal` as the SparseCore launch theorem sees it: its labels, its body table, the resource algebra
  the proofs of this directory share, and the buffers by name. Everything is stated at any float interpretation `F`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program below its SparseCore calls. -/
abbrev ΛP : Labels := Pipeline.Sig Λ₀ (Fin 1) fun p => (pcfgs (F := F) p).Adm
/-- The configuration of the one SparseCore call. -/
abbrev K : SparseCore.Cfg τ sig (ΛP (F := F)) 1 := sc (F := F)
/-- The body table the call's kernels run over. -/
abbrev D [FloatOps F] : Defs nD τ sig (Elt F) (ΛP (F := F)) := Pipeline.defs pcfgs defs₀
/-- The kernels take no variant. -/
abbrev 𝒱₀ : Variants := Variants.none
/-- The variants one level up, where a pipeline's region counts its trips. -/
abbrev 𝒱 : Variants := 𝒱₀.lift
/-- The variant a tile's task starts at. -/
abbrev v₀ : 𝒱.V := Sum.inl none

/-- The call's four launch semaphores are distinct and unscoped, and no buffer of the program is shared by a SparseCore's tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The rounds of the handshake cells. -/
abbrev UH : Type := URounds (GSem nD τ sig) ℕ
/-- The rounds of the pipeline's staging cells. -/
abbrev UP : Type := URounds (GSem nD τ sig) Unit
/-- The certificate's algebra: handshakes, staging cells, and the counters of the transfers. -/
abbrev UU : Type := UH × (UP × Counters)

local notation "𝕄" => MT nD τ sig (HIx 1) (Elt F) ℕ UU ℕ

/-- Where the handshakes' rounds lie. -/
abbrev EH : Emb UH (MT nD τ sig (HIx 1) (Elt F) ℕ UU ℕ) := embL
/-- Where the staging cells' rounds lie. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The buffers -/

/-- The gestures, flat, in @main's memory. -/
abbrev xLoc (d : Dev nD) : Loc nD τ sig := (SparseCore.T d).loc main_v0
/-- The three weights, each repeated sixteen times. -/
abbrev wLoc (d : Dev nD) : Loc nD τ sig := (SparseCore.T d).loc main_v7
/-- What the SparseCores write. -/
abbrev oLoc (d : Dev nD) : Loc nD τ sig := (SparseCore.T d).loc main_v8

/-- The coordinates of tile `(c, s)` in the kernel's grid. -/
abbrev coordsV (c : Fin (grid0.bound 0)) (s : Fin (grid0.bound 1)) : grid0.Coords :=
  fun | 0 => c | 1 => s | ⟨_ + 2, h⟩ => absurd h (Nat.not_lt.2 (Nat.le_add_left _ _))

end Cert.Proof

end
-- ==== Proof.Trip.lean ====
/-
  The counted loop of the SparseCore body. Each of the eight loops runs over the 128 sixteen-word columns of a 16-row
  buffer and adds, row by row, the words to one accumulator and the words shifted right by one to another. The loop is
  proved once, for a buffer named by any memory reference; the eight printed loops are that one by definition.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The vector subcore of device `d` at grid coordinates `i`. -/
abbrev thrOf (d : Dev nD) (i : grid0.Coords) : Thread nD τ := V d ((i 0).castLE hcore0) ((i 1).castLE hsub0)

/-! ## Thirty-two accumulators as a family -/

/-- One accumulator: sixteen 32-bit lanes. -/
abbrev Acc : Type := IVec S16 32

/-- The loop's carried values: sixteen sums of words, then sixteen sums of shifted words. -/
abbrev Accs : Type := Acc × Acc × Acc × Acc × Acc × Acc × Acc × Acc × Acc × Acc × Acc × Acc × Acc × Acc × Acc × Acc × Acc × Acc × Acc × Acc × Acc × Acc × Acc × Acc × Acc × Acc × Acc × Acc × Acc × Acc × Acc × Acc

/-- The carried values of a family of accumulators. -/
def tup (g : Fin 32 → Acc) : Accs := (g 0, g 1, g 2, g 3, g 4, g 5, g 6, g 7, g 8, g 9, g 10, g 11, g 12, g 13, g 14, g 15, g 16, g 17, g 18, g 19, g 20, g 21, g 22, g 23, g 24, g 25, g 26, g 27, g 28, g 29, g 30, g 31)

/-! ## One trip -/

section
variable (arg : Memref sig .scVector .vmem S32768 .i32) {d : Dev nD} {i : grid0.Coords} (f : Buf (Elt F) (arg.view.loc (thrOf d i)))

/-- The sixteen words row `r` of the buffer holds at column `k`. -/
def col (k : Fin k0_t1_loop.trips) (r : Fin 16) : Vec F S16 .i32 :=
  arg.view.readAt (Elt F) (Rect.unit (s := S32768) (k0_off3 k (BitVec.ofNat 32 (2048 * r.val))) S16.size (k0_off3_inb k r)).toLoadRect f

/-- What one trip does to the accumulators. -/
def step (k : Fin k0_t1_loop.trips) (g : Fin 32 → Acc) : Fin 32 → Acc := fun r =>
  if h : r.val < 16 then addi (g r) (col arg f k ⟨r.val, h⟩)
  else addi (g r) (shrsi (col arg f k ⟨r.val - 16, by omega⟩) (broadcast S16 1#32))

/-- The accumulators before trip `n`. -/
def sums : ℕ → Fin 32 → Acc
  | 0 => fun _ => broadcast S16 0#32
  | n + 1 => if h : n < k0_t1_loop.trips then step arg f ⟨n, h⟩ (sums n) else sums n

/-- The accumulators after trip `k`, from those before it. -/
theorem sums_succ (k : Fin k0_t1_loop.trips) : sums arg f (k.val + 1) = step arg f k (sums arg f k.val) := by
  rw [sums, dif_pos k.isLt]

end

variable [FloatOps F]

section
variable (d : Dev nD) (i : grid0.Coords) (arg2 : Memref sig .scVector .hbm S16777216 .i32) (harg2 : arg2.IsWhole)
  (arg3 : Memref sig .scVector .hbm S3x16 .f32) (harg3 : arg3.IsWhole) (arg4 : Memref sig .scVector .hbm S4096 .f32) (harg4 : arg4.IsWhole)
  (arg5 : Memref sig .scVector .vmem S32768 .i32) (harg5 : arg5.IsWhole) (arg6 : Memref sig .scVector .vmem S32768 .i32) (harg6 : arg6.IsWhole)
  (arg7 : Memref sig .scVector .vmem S3x16 .f32) (harg7 : arg7.IsWhole) (arg8 : Memref sig .scVector .vmem S128 .f32) (harg8 : arg8.IsWhole)
  (arg9 : DmaSems sig S_) (arg10 : DmaSems sig S_) (v1878_r0 : DmaSems sig S_) (v1878_r1 : DmaSems sig S_)

/-- One trip of the loop over the buffer `arg5`: the buffer is only read, and the accumulators take one step. -/
theorem trip (f : Buf (Elt F) (arg5.view.loc (thrOf d i))) (k : Fin k0_t1_loop.trips) (g : Fin 32 → Acc) :
    (arg5.view.loc (thrOf d i) ↦{fullShare} f : sProp 𝕄) ⊢
      wp frame (wpE (nD := nD) defs₀ 𝒱₀ (thrOf d i) none) Set.univ
        (k0_t1_body (F := F) i arg2 harg2 arg3 harg3 arg4 harg4 arg5 harg5 arg6 harg6 arg7 harg7 arg8 harg8 arg9 arg10 v1878_r0 v1878_r1 k (tup g))
        (fun r => iprop((arg5.view.loc (thrOf d i) ↦{fullShare} f) ∗ ⌜r = tup (step arg5 f k g)⌝)) := by
  iintro H
  unfold k0_t1_body tup
  sl_exec
  sl_step
  isplitl [H]; · iexact H
  ipureintro
  rfl

/-- A loop over the buffer `arg5` with all its trips, at the head of a program: the program goes on from the buffer
    unchanged and the accumulators of all 128 trips. -/
theorem loop_bind (f : Buf (Elt F) (arg5.view.loc (thrOf d i))) {β : Type}
    {kk : Accs → Prog (TpuEff nD τ sig (Elt F) Λ₀ (.scVector ((i 0).castLE hcore0) ((i 1).castLE hsub0))) β} {Q : β → sProp 𝕄} :
    (arg5.view.loc (thrOf d i) ↦{fullShare} f : sProp 𝕄) ⊢
      iprop(((arg5.view.loc (thrOf d i) ↦{fullShare} f) -∗
          wp frame (wpE (nD := nD) defs₀ 𝒱₀ (thrOf d i) none) Set.univ (kk (tup (sums arg5 f k0_t1_loop.trips))) Q) -∗
        wp frame (wpE (nD := nD) defs₀ 𝒱₀ (thrOf d i) none) Set.univ
          (Scf.Loop.for k0_t1_loop k0_t1_ok (tup fun _ => broadcast S16 0#32) (k0_t1_body (F := F) i arg2 harg2 arg3 harg3 arg4 harg4 arg5 harg5 arg6 harg6 arg7 harg7 arg8 harg8 arg9 arg10 v1878_r0 v1878_r1) >>= kk) Q) := by
  iintro H Hk
  iapply (Scf.wp_for_bind frame (wpE (nD := nD) defs₀ 𝒱₀ (thrOf d i) none) Set.univ _ _ _ k0_t1_ok _ _
    (fun n acc => iprop((arg5.view.loc (thrOf d i) ↦{fullShare} f) ∗ ⌜acc = tup (sums arg5 f n)⌝)) ?_) $$ [H] [Hk]
  · intro k acc
    iintro ⟨H, %e⟩
    subst e
    rw [sums_succ]
    iapply (trip d i arg2 harg2 arg3 harg3 arg4 harg4 arg5 harg5 arg6 harg6 arg7 harg7 arg8 harg8 arg9 arg10 v1878_r0 v1878_r1 f k (sums arg5 f k.val))
    iexact H
  · isplitl [H]; · iexact H
    ipureintro; rfl
  · iintro %acc ⟨H, %e⟩
    subst e
    iapply Hk
    iexact H

end

end Cert.Proof

end
-- ==== Proof.Value.lean ====
/-
  What a tile computes of one group of sixteen rows: the sixteen row totals gathered into the lanes of one vector, and
  the chain of float operations that turns them into sixteen results.
-/
module

public import proofs.«01_k».proof.Proof.Trip
public import Mathlib.Data.BitVec

@[expose] public section

noncomputable section

namespace Cert.Proof

open Cert.KernelIdeal Cert.KernelIdeal.Gen
open Idealize.ShloMosaic

variable {F : FTy → Type}

/-! ## Words by number -/

/-- Word `n` of a one-axis array, zero past its end. -/
def wordAt {N : ℕ} (x : (⟨1, ![N]⟩ : Shape).Idx → BitVec 32) (n : ℕ) : BitVec 32 :=
  if h : n < N then x (Shape.ofLane (d := ![N]) (⟨n, h⟩ : Fin N)) else 0#32

/-- A word shifted right by one place, the sign kept. -/
def half (v : BitVec 32) : BitVec 32 := IntOp.shrsi .vector v 1#32

/-- The sum of the 2048 words of row `R`. -/
def rowSum {N : ℕ} (x : (⟨1, ![N]⟩ : Shape).Idx → BitVec 32) (R : ℕ) : BitVec 32 := ∑ j ∈ Finset.range 2048, wordAt x (2048 * R + j)

/-- The sum of the 2048 shifted words of row `R`. -/
def rowHalves {N : ℕ} (x : (⟨1, ![N]⟩ : Shape).Idx → BitVec 32) (R : ℕ) : BitVec 32 := ∑ j ∈ Finset.range 2048, half (wordAt x (2048 * R + j))

/-! ## Sixteen row totals in one vector -/

/-- The lane numbers. -/
abbrev lane16 : IVec S16 32 := iota .scVector S16 32 [0] iota_S16_d0_w32_scVector

/-- The sum of an accumulator's sixteen lanes: the last entry of its running sums. -/
def lastSum (a : Acc) : BitVec 32 := extractAt ![15] (scan .sum a) inpos_S16_p15

/-- The first `n` accumulators' sums, each at its own lane, and zero at the lanes after. -/
def gathered (h : Fin 16 → Acc) : (n : ℕ) → n ≤ 16 → IVec S16 32
  | 0, _ => broadcast S16 0#32
  | n + 1, hn => select (cmpi .eq lane16 (broadcast S16 (BitVec.ofNat 32 n))) (broadcast S16 (lastSum (h ⟨n, hn⟩))) (gathered h n (Nat.le_of_succ_le hn))

/-- The sixteen sums, one per lane. -/
def totals (h : Fin 16 → Acc) : IVec S16 32 := gathered h 16 (Nat.le_refl _)

/-- One lane of an accumulator. -/
def ln (a : Acc) (k : Fin 16) : BitVec 32 := a (Shape.ofLane (d := ![16]) k)

/-- A lane's number. -/
def lnum (l : S16.Idx) : Fin 16 := ⟨(l 0).val, (l 0).isLt⟩

/-- The last running sum is the sum of the sixteen lanes. -/
theorem lastSum_eq (a : Acc) : lastSum a = ∑ l ∈ Finset.range 16, wordAt a l := by
  have h : lastSum a = ln a 0 + ln a 1 + ln a 2 + ln a 3 + ln a 4 + ln a 5 + ln a 6 + ln a 7 + ln a 8 + ln a 9 + ln a 10 + ln a 11 + ln a 12 + ln a 13 + ln a 14 + ln a 15 := rfl
  rw [h]
  simp only [Finset.sum_range_succ, Finset.sum_range_zero, zero_add]
  rfl

/-- A lane's number as a word. -/
theorem lane16_apply (l : S16.Idx) : lane16 l = BitVec.ofNat 32 (lnum l).val := by
  show BitVec.ofNat 32 (0 * 16 + (l 0).val) = _
  rw [Nat.zero_mul, Nat.zero_add]; rfl

/-- Choosing by whether two small numbers are equal as words is choosing by whether they are equal. -/
theorem select_ofNat {α : Type} (p n : ℕ) (hp : p < 16) (hn : n < 16) (a b : α) :
    Scalar.select (IntOp.cmpi .eq (BitVec.ofNat 32 p) (BitVec.ofNat 32 n)) a b = if p = n then a else b := by
  by_cases h : p = n
  · subst h
    rw [if_pos rfl]
    simp only [IntOp.cmpi, beq_self_eq_true]; rfl
  · have : (BitVec.ofNat 32 p == BitVec.ofNat 32 n) = false := by
      rw [beq_eq_false_iff_ne]; intro e
      have := congrArg BitVec.toNat e
      simp only [BitVec.toNat_ofNat] at this; omega
    rw [if_neg h]
    simp only [IntOp.cmpi, this]; rfl

/-- Lane `l` of the gathered vector holds accumulator `l`'s sum once it has been put there, and zero before. -/
theorem gathered_apply (h : Fin 16 → Acc) (l : S16.Idx) (n : ℕ) :
    ∀ hn : n ≤ 16, gathered h n hn l = if (lnum l).val < n then lastSum (h (lnum l)) else 0#32 := by
  induction n with
  | zero => intro hn; rw [if_neg (Nat.not_lt_zero _)]; rfl
  | succ n ih =>
    intro hn
    rw [gathered]
    simp only [select, cmpi, broadcast]
    rw [ih, lane16_apply, select_ofNat _ _ (lnum l).isLt hn]
    by_cases e : (lnum l).val = n
    · have e' : (⟨n, hn⟩ : Fin 16) = lnum l := Fin.ext e.symm
      rw [if_pos e, if_pos (by omega), e']
    · rw [if_neg e]
      by_cases e2 : (lnum l).val < n
      · rw [if_pos e2, if_pos (by omega)]
      · rw [if_neg e2, if_neg (by omega)]

/-- Each lane holds its own accumulator's sum. -/
theorem totals_apply (h : Fin 16 → Acc) (l : S16.Idx) : totals h l = lastSum (h (lnum l)) := by
  unfold totals
  rw [gathered_apply]
  exact if_pos (lnum l).isLt

/-! ## The sum of a row, column block by column block -/

/-- A sum over blocks of `w` is the sum over all. -/
theorem sum_blocks {M : Type} [AddCommMonoid M] (f : ℕ → M) (w : ℕ) : ∀ n : ℕ,
    ∑ k ∈ Finset.range n, ∑ l ∈ Finset.range w, f (w * k + l) = ∑ j ∈ Finset.range (w * n), f j
  | 0 => by simp
  | n + 1 => by rw [Finset.sum_range_succ, sum_blocks f w n, Nat.mul_succ, Finset.sum_range_add]

/-- The loop makes 128 trips. -/
theorem trips_eq : k0_t1_loop.trips = 128 := by decide

section
variable (arg : Memref sig .scVector .vmem S32768 .i32) {d : Dev nD} {i : grid0.Coords} (f : Buf (Elt F) (arg.view.loc (thrOf d i)))

/-- The words of the buffer as the loop reads them. -/
abbrev words : S32768.Idx → BitVec 32 := arg.view.read (Elt F) f

/-- Lane `l` of row `r` at column `k` is the buffer's word `2048 r + 16 k + l`. -/
theorem col_apply (k : Fin k0_t1_loop.trips) (r : Fin 16) (l : S16.Idx) :
    col arg f k r l = wordAt (words arg f) (2048 * r.val + (16 * k.val + (l 0).val)) := by
  have hk : k.val < 128 := trips_eq ▸ k.isLt
  have hl : (l 0).val < 16 := (l 0).isLt
  unfold wordAt
  have hb : 2048 * r.val + (16 * k.val + (l 0).val) < 32768 := by have := r.isLt; omega
  rw [dif_pos hb]
  show arg.view.read (Elt F) f _ = arg.view.read (Elt F) f _
  congr 1
  funext a
  apply Fin.ext
  rw [Fin.eq_zero a]
  show k0_off3 k (BitVec.ofNat 32 (2048 * r.val)) 0 + 1 * (l 0).val = 2048 * r.val + (16 * k.val + (l 0).val)
  rw [k0_off3_eq]
  show 16 * k.val + 2048 * r.val + 1 * (l 0).val = _
  omega

/-- Before trip `n` the first sixteen accumulators hold the sums of the words of `n` columns. -/
theorem sums_low (r : Fin 16) (l : S16.Idx) : ∀ n ≤ 128,
    sums arg f n ⟨r.val, by omega⟩ l = ∑ k ∈ Finset.range n, wordAt (words arg f) (2048 * r.val + (16 * k + (l 0).val))
  | 0, _ => rfl
  | n + 1, hn => by
    have hn' : n < k0_t1_loop.trips := by rw [trips_eq]; omega
    rw [Finset.sum_range_succ, ← sums_low r l n (by omega), ← col_apply arg f ⟨n, hn'⟩ r l, sums, dif_pos hn']
    unfold step
    rw [dif_pos r.isLt]
    rfl

/-- Before trip `n` the last sixteen accumulators hold the sums of the shifted words of `n` columns. -/
theorem sums_high (r : Fin 16) (l : S16.Idx) : ∀ n ≤ 128,
    sums arg f n ⟨r.val + 16, by omega⟩ l = ∑ k ∈ Finset.range n, half (wordAt (words arg f) (2048 * r.val + (16 * k + (l 0).val)))
  | 0, _ => rfl
  | n + 1, hn => by
    have hn' : n < k0_t1_loop.trips := by rw [trips_eq]; omega
    rw [Finset.sum_range_succ, ← sums_high r l n (by omega), ← col_apply arg f ⟨n, hn'⟩ r l, sums, dif_pos hn']
    unfold step
    rw [dif_neg (by simp)]
    rfl

/-- An accumulator's lane read by its number. -/
theorem wordAt_acc (a : Acc) (l : ℕ) (h : l < 16) : wordAt a l = a (Shape.ofLane (d := ![16]) (⟨l, h⟩ : Fin 16)) := dif_pos h

/-- After all trips, lane `l` of the gathered totals is the sum of the buffer's row `l`. -/
theorem totals_low (l : S16.Idx) :
    totals (fun r => sums arg f k0_t1_loop.trips ⟨r.val, by omega⟩) l = ∑ j ∈ Finset.range 2048, wordAt (words arg f) (2048 * (l 0).val + j) := by
  rw [totals_apply, lastSum_eq, trips_eq]
  rw [← sum_blocks (fun j => wordAt (words arg f) (2048 * (l 0).val + j)) 16 128, Finset.sum_comm]
  refine Finset.sum_congr rfl fun q hq => ?_
  rw [wordAt_acc _ q (Finset.mem_range.mp hq)]
  exact sums_low arg f (lnum l) _ 128 le_rfl

/-- The same of the shifted words. -/
theorem totals_high (l : S16.Idx) :
    totals (fun r => sums arg f k0_t1_loop.trips ⟨r.val + 16, by omega⟩) l = ∑ j ∈ Finset.range 2048, half (wordAt (words arg f) (2048 * (l 0).val + j)) := by
  rw [totals_apply, lastSum_eq, trips_eq]
  rw [← sum_blocks (fun j => half (wordAt (words arg f) (2048 * (l 0).val + j))) 16 128, Finset.sum_comm]
  refine Finset.sum_congr rfl fun q hq => ?_
  rw [wordAt_acc _ q (Finset.mem_range.mp hq)]
  exact sums_high arg f (lnum l) _ 128 le_rfl

end

/-! ## From the totals to the results -/

variable [FloatOps F]

/-- The kernel's score, gate and logistic on one row's numbers, before the clip: the total `s` of its words, the total
    `c` of its shifted words, and the three weights. -/
def logistic (w0 w1 w2 : F .f32) (s c : BitVec 32) : F .f32 :=
  have one : F .f32 := Scalar.ofBits .f32 0x3F800000#32
  have inv : F .f32 := Scalar.ofBits .f32 0x3A000000#32
  have n : F .f32 := Scalar.ofBits .f32 0x45000000#32
  have zero : F .f32 := Scalar.ofBits .f32 0x00000000#32
  have fs : F .f32 := FloatOps.sitofp .f32 s
  have fc : F .f32 := FloatOps.sitofp .f32 c
  have f0 : F .f32 := FloatOps.mulf (FloatOps.addf (FloatOps.subf n fs) fc) inv
  have f1 : F .f32 := FloatOps.mulf (FloatOps.subf (FloatOps.subf fs fc) fc) inv
  have f2 : F .f32 := FloatOps.mulf fc inv
  have score : F .f32 := FloatOps.addf (FloatOps.addf (FloatOps.mulf f0 w0) (FloatOps.mulf f1 w1)) (FloatOps.mulf f2 w2)
  have gate : F .f32 := FloatOps.divf one (FloatOps.addf one (FloatOps.exp (FloatOps.subf zero (FloatOps.addf f0 f0))))
  FloatOps.divf one (FloatOps.addf one (FloatOps.exp (FloatOps.subf zero (FloatOps.mulf score (FloatOps.addf one gate)))))

/-- A SparseCore tile's result of one row: that, clipped, -/
def scTail (w0 w1 w2 : F .f32) (s c : BitVec 32) : F .f32 :=
  FloatOps.minimumf (FloatOps.maximumf (logistic w0 w1 w2 s c) (Scalar.ofBits .f32 0x33D6BF95#32)) (Scalar.ofBits .f32 0x3F7FFFFE#32)

/-- and the TensorCore's: the same clip, its operands in the other order. -/
def tcTail (w0 w1 w2 : F .f32) (s c : BitVec 32) : F .f32 :=
  FloatOps.minimumf (Scalar.ofBits .f32 0x3F7FFFFE#32) (FloatOps.maximumf (Scalar.ofBits .f32 0x33D6BF95#32) (logistic w0 w1 w2 s c))

/-- The sixteen results of a group, from its thirty-two accumulators and the weights by lane. -/
def groupVal (w0 w1 w2 : FVec F S16 .f32) (g : Fin 32 → Acc) : FVec F S16 .f32 := fun l =>
  scTail (w0 l) (w1 l) (w2 l) (totals (fun r => g ⟨r.val, by omega⟩) l) (totals (fun r => g ⟨r.val + 16, by omega⟩) l)

end Cert.Proof

end
-- ==== Proof.Tile.lean ====
/-
  One tile of the SparseCore kernel. It reads its 128 rows in eight groups of sixteen through two buffers, and leaves
  their 128 results in its block of the output. The body is run once, at symbolic grid coordinates.
-/
module

public import proofs.«01_k».proof.Proof.Value

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The gestures, as a vector subcore names them. -/
abbrev xV : Memref sig .scVector .hbm S16777216 .i32 := Memref.whole main_v0_scv
/-- The repeated weights, -/
abbrev wV : Memref sig .scVector .hbm S3x16 .f32 := Memref.whole main_v7_scv
/-- the SparseCores' output, -/
abbrev oV : Memref sig .scVector .hbm S4096 .f32 := Memref.whole main_v8_scv
/-- the first buffer of rows, -/
abbrev aV : Memref sig .scVector .vmem S32768 .i32 := Memref.whole cc0_scratch0
/-- the second, -/
abbrev bV : Memref sig .scVector .vmem S32768 .i32 := Memref.whole cc0_scratch1
/-- the staged weights, -/
abbrev tV : Memref sig .scVector .vmem S3x16 .f32 := Memref.whole cc0_scratch2
/-- and the tile's results. -/
abbrev rV : Memref sig .scVector .vmem S128 .f32 := Memref.whole cc0_scratch3

/-- The 128 results of the tile, as it addresses them. -/
abbrev oSl (i : grid0.Coords) : Memref sig .scVector .hbm S128 .f32 :=
  (oV).slice (Rect.unit (s := S4096) (k0_off11 i) S128.size (k0_off11_inb i)) (fun _ => rfl)

/-! ## What the transfers bring -/

/-- The sixteen rows that start at word `B`. -/
def slab (x : S16777216.Idx → BitVec 32) (B : ℕ) : S32768.Idx → BitVec 32 := fun j => wordAt x (B + (j 0).val)

/-- The first row of the tile at coordinates `i`. -/
def tileRow (i : grid0.Coords) : ℕ := 2048 * (i 0).val + 128 * (i 1).val

/-- Its first word. -/
def tileBase (i : grid0.Coords) : ℕ := 4194304 * (i 0).val + 262144 * (i 1).val

/-- Where the first group of rows starts, -/
theorem off1_base (i : grid0.Coords) : k0_off1 i = ![tileBase i + 0] := k0_off1_eq i

/-- and where each later one does. -/
theorem off2_base (i : grid0.Coords) (n : Fin 7) : k0_off2 i (BitVec.ofNat 32 (16 + 16 * n.val)) = ![tileBase i + 32768 * (n.val + 1)] := by
  rw [k0_off2_eq]
  unfold tileBase
  refine congrArg (fun m : ℕ => (![m] : Fin 1 → ℕ)) ?_
  omega

/-- A transfer's sixteen rows, read through the slice it names. -/
theorem read_slice_eq_slab (x : S16777216.Idx → BitVec 32) {off : Fin 1 → ℕ} (inb : ∀ a, off a + S32768.size a ≤ S16777216.size a)
    (h : ∀ a, (Rect.unit (s := S16777216) off S32768.size inb).stride a = 1) (B : ℕ) (hB : off = ![B]) :
    (ReadAs.same.apply (View.read (Elt F) (xV.slice (Rect.unit (s := S16777216) off S32768.size inb) h).view x) : S32768.Idx → BitVec 32)
      = slab x B := by
  subst hB
  funext j
  have hj : (j 0).val < 32768 := (j 0).isLt
  have hb : B + 32768 ≤ 16777216 := inb 0
  have hlt : B + (j 0).val < 16777216 := by omega
  unfold slab wordAt
  rw [dif_pos hlt]
  show x _ = x _
  congr 1
  funext a
  apply Fin.ext
  rw [Fin.eq_zero a]
  show B + 1 * (j 0).val = B + (j 0).val
  omega

/-- A buffer of rows after a transfer that fills it holds what the transfer brought. -/
theorem filled_a {d : Dev nD} {i : grid0.Coords} (f : Buf (Elt F) ((thrOf d i).loc cc0_scratch0)) (p : S32768.Idx → BitVec 32) :
    View.write (Elt F) aV.view f p Finset.univ = p := View.write_whole_univ (Val := Elt F) cc0_scratch0 f p

/-- The same of the second buffer. -/
theorem filled_b {d : Dev nD} {i : grid0.Coords} (f : Buf (Elt F) ((thrOf d i).loc cc0_scratch1)) (p : S32768.Idx → BitVec 32) :
    View.write (Elt F) bV.view f p Finset.univ = p := View.write_whole_univ (Val := Elt F) cc0_scratch1 f p

/-- The staged weights are the weights. -/
theorem filled_t {d : Dev nD} {i : grid0.Coords} (f : Buf (Elt F) ((thrOf d i).loc cc0_scratch2)) (w : S3x16.Idx → F .f32) :
    View.write (Elt F) tV.view f (ReadAs.same.apply (View.read (Elt F) wV.view w)) Finset.univ = w := View.write_whole_univ (Val := Elt F) cc0_scratch2 f w

/-! ## The tile's results -/

/-- Weight `r` as the kernel's lane `l` reads it. -/
def weightAt (w : S3x16.Idx → F .f32) (r : Fin 3) (l : Fin 16) : F .f32 := w (Shape.pair (d := ![3, 16]) r l)

/-- What the SparseCores leave in their output: entry `R` is the result of row `R`, its weights read at lane `R mod 16`. -/
def outSC (x : S16777216.Idx → BitVec 32) (w : S3x16.Idx → F .f32) : S4096.Idx → F .f32 := fun R =>
  scTail (weightAt w 0 ⟨(R 0).val % 16, Nat.mod_lt _ (by decide)⟩) (weightAt w 1 ⟨(R 0).val % 16, Nat.mod_lt _ (by decide)⟩)
    (weightAt w 2 ⟨(R 0).val % 16, Nat.mod_lt _ (by decide)⟩) (rowSum x (R 0).val) (rowHalves x (R 0).val)

/-- One weight's sixteen lanes, as the body reads them from the staged weights. -/
def wrow (w : S3x16.Idx → F .f32) (r : Fin 3) (inb : ∀ a, (![r.val, 0] : Fin 2 → ℕ) a + S1x16.size a ≤ S3x16.size a) : FVec F S16 .f32 :=
  shapeCast S16 (tV.view.readAt (Elt F) (Rect.unit (s := S3x16) ![r.val, 0] S1x16.size inb).toLoadRect w) shapeCasts_S1x16_S16

/-- Its lane `l`. -/
theorem wrow_apply (w : S3x16.Idx → F .f32) (r : Fin 3) (inb : ∀ a, (![r.val, 0] : Fin 2 → ℕ) a + S1x16.size a ≤ S3x16.size a) (l : S16.Idx) :
    wrow w r inb l = weightAt w r (lnum l) := by
  unfold wrow shapeCast weightAt
  rw [Shape.reshapeEquiv_cons_one (d := ![16])]
  show w _ = w _
  congr 1
  funext a
  apply Fin.ext
  match a with
  | 0 => show r.val + 1 * 0 = r.val; omega
  | 1 => show 0 + 1 * (l 0).val = (l 0).val; omega

/-- A slab's word is the array's, `B` further on. -/
theorem wordAt_slab (x : S16777216.Idx → BitVec 32) (B m : ℕ) (hm : m < 32768) : wordAt (N := 32768) (slab x B) m = wordAt x (B + m) := by
  have h : wordAt (N := 32768) (slab x B) m = slab x B (Shape.ofLane (d := ![32768]) (⟨m, hm⟩ : Fin 32768)) := dif_pos hm
  rw [h]
  rfl

/-- The results of a group of sixteen rows held in a whole buffer. -/
theorem group_apply (arg : Memref sig .scVector .vmem S32768 .i32) {d : Dev nD} {i : grid0.Coords} (f : Buf (Elt F) (arg.view.loc (thrOf d i)))
    (x : S16777216.Idx → BitVec 32) (R : ℕ) (hf : words arg f = slab x (2048 * R)) (w0 w1 w2 : FVec F S16 .f32) (l : S16.Idx) :
    groupVal w0 w1 w2 (sums arg f k0_t1_loop.trips) l = scTail (w0 l) (w1 l) (w2 l) (rowSum x (R + (l 0).val)) (rowHalves x (R + (l 0).val)) := by
  have hl : (l 0).val < 16 := (l 0).isLt
  have hw : ∀ j ∈ Finset.range 2048, wordAt (words arg f) (2048 * (l 0).val + j) = wordAt x (2048 * (R + (l 0).val) + j) := fun j hj => by
    rw [hf, wordAt_slab x _ _ (by have := Finset.mem_range.mp hj; omega)]
    exact congrArg (wordAt x) (by omega)
  unfold groupVal
  rw [totals_low arg f l, totals_high arg f l]
  exact congrArg₂ (scTail (w0 l) (w1 l) (w2 l)) (Finset.sum_congr rfl hw) (Finset.sum_congr rfl fun j hj => congrArg half (hw j hj))

/-- The results of group `n` of the tile, from the first buffer, -/
abbrev groupA (d : Dev nD) (i : grid0.Coords) (x : S16777216.Idx → BitVec 32) (w : S3x16.Idx → F .f32) (n : ℕ) : FVec F S16 .f32 :=
  groupVal (wrow w 0 inb_S3x16_S1x16_0_0) (wrow w 1 inb_S3x16_S1x16_1_0) (wrow w 2 inb_S3x16_S1x16_2_0)
    (sums (F := F) aV (d := d) (i := i) (slab x (tileBase i + n)) k0_t1_loop.trips)

/-- and from the second. -/
abbrev groupB (d : Dev nD) (i : grid0.Coords) (x : S16777216.Idx → BitVec 32) (w : S3x16.Idx → F .f32) (n : ℕ) : FVec F S16 .f32 :=
  groupVal (wrow w 0 inb_S3x16_S1x16_0_0) (wrow w 1 inb_S3x16_S1x16_1_0) (wrow w 2 inb_S3x16_S1x16_2_0)
    (sums (F := F) bV (d := d) (i := i) (slab x (tileBase i + n)) k0_t1_loop.trips)

/-- Entry `j` of the tile's block of the output. -/
def tileOut (i : grid0.Coords) (x : S16777216.Idx → BitVec 32) (w : S3x16.Idx → F .f32) : S128.Idx → F .f32 := fun j =>
  outSC x w ((Rect.unit (s := S4096) (k0_off11 i) S128.size (k0_off11_inb i)).emb j)

/-- Where entry `j` of the tile's block lies in the output. -/
theorem emb_off11 (i : grid0.Coords) (j : S128.Idx) :
    ((Rect.unit (s := S4096) (k0_off11 i) S128.size (k0_off11_inb i)).emb j 0).val = tileRow i + (j 0).val := by
  show k0_off11 i 0 + 1 * (j 0).val = _
  rw [k0_off11_eq, Nat.one_mul]
  rfl

/-- A group's results are its sixteen entries of the tile's block. -/
theorem group_tileOut (i : grid0.Coords) (x : S16777216.Idx → BitVec 32) (w : S3x16.Idx → F .f32) (n : Fin 8)
    (inb : ∀ a, (![16 * n.val] : Fin 1 → ℕ) a + S16.size a ≤ S128.size a) (G : FVec F S16 .f32)
    (hG : ∀ l : S16.Idx, G l = scTail (wrow w 0 inb_S3x16_S1x16_0_0 l) (wrow w 1 inb_S3x16_S1x16_1_0 l) (wrow w 2 inb_S3x16_S1x16_2_0 l)
      (rowSum x (tileRow i + 16 * n.val + (l 0).val)) (rowHalves x (tileRow i + 16 * n.val + (l 0).val))) (l : S16.Idx) :
    G l = tileOut i x w ((Rect.unit (s := S128) ![16 * n.val] S16.size inb).emb l) := by
  have hl : (l 0).val < 16 := (l 0).isLt
  have he : (((Rect.unit (s := S128) ![16 * n.val] S16.size inb).emb l) 0).val = 16 * n.val + (l 0).val := by
    show 16 * n.val + 1 * (l 0).val = _
    omega
  have hr := emb_off11 i ((Rect.unit (s := S128) ![16 * n.val] S16.size inb).emb l)
  rw [he, ← Nat.add_assoc] at hr
  have hm : (tileRow i + 16 * n.val + (l 0).val) % 16 = (l 0).val := by
    unfold tileRow
    omega
  rw [hG, wrow_apply, wrow_apply, wrow_apply]
  unfold tileOut outSC
  have hq : (⟨(((Rect.unit (s := S4096) (k0_off11 i) S128.size (k0_off11_inb i)).emb ((Rect.unit (s := S128) ![16 * n.val] S16.size inb).emb l)) 0).val % 16,
      Nat.mod_lt _ (by decide)⟩ : Fin 16) = lnum l := Fin.ext (by
    show (((Rect.unit (s := S4096) (k0_off11 i) S128.size (k0_off11_inb i)).emb ((Rect.unit (s := S128) ![16 * n.val] S16.size inb).emb l)) 0).val % 16 = (l 0).val
    rw [hr, hm])
  rw [hq, hr]

/-- Group `n`'s results from the first buffer, row by row. -/
theorem groupA_apply (d : Dev nD) (i : grid0.Coords) (x : S16777216.Idx → BitVec 32) (w : S3x16.Idx → F .f32) (n : ℕ) (l : S16.Idx) :
    groupA d i x w (32768 * n) l = scTail (wrow w 0 inb_S3x16_S1x16_0_0 l) (wrow w 1 inb_S3x16_S1x16_1_0 l) (wrow w 2 inb_S3x16_S1x16_2_0 l)
      (rowSum x (tileRow i + 16 * n + (l 0).val)) (rowHalves x (tileRow i + 16 * n + (l 0).val)) :=
  group_apply aV (slab x (tileBase i + 32768 * n)) x (tileRow i + 16 * n) (by
    exact congrArg (slab x) (by unfold tileBase tileRow; omega)) _ _ _ l

/-- Group `n`'s results from the second buffer, row by row. -/
theorem groupB_apply (d : Dev nD) (i : grid0.Coords) (x : S16777216.Idx → BitVec 32) (w : S3x16.Idx → F .f32) (n : ℕ) (l : S16.Idx) :
    groupB d i x w (32768 * n) l = scTail (wrow w 0 inb_S3x16_S1x16_0_0 l) (wrow w 1 inb_S3x16_S1x16_1_0 l) (wrow w 2 inb_S3x16_S1x16_2_0 l)
      (rowSum x (tileRow i + 16 * n + (l 0).val)) (rowHalves x (tileRow i + 16 * n + (l 0).val)) :=
  group_apply bV (slab x (tileBase i + 32768 * n)) x (tileRow i + 16 * n) (by
    exact congrArg (slab x) (by unfold tileBase tileRow; omega)) _ _ _ l

/-- The eight stores that fill the tile's results, the last one first. -/
abbrev stores (d : Dev nD) (i : grid0.Coords) (x : S16777216.Idx → BitVec 32) (w : S3x16.Idx → F .f32) : List (View.Piece (Elt F) S128 .f32) :=
  [⟨Rect.unit ![112] S16.size inb_S128_S16_112, groupB d i x w 229376⟩, ⟨Rect.unit ![96] S16.size inb_S128_S16_96, groupA d i x w 196608⟩,
    ⟨Rect.unit ![80] S16.size inb_S128_S16_80, groupB d i x w 163840⟩, ⟨Rect.unit ![64] S16.size inb_S128_S16_64, groupA d i x w 131072⟩,
    ⟨Rect.unit ![48] S16.size inb_S128_S16_48, groupB d i x w 98304⟩, ⟨Rect.unit ![32] S16.size inb_S128_S16_32, groupA d i x w 65536⟩,
    ⟨Rect.unit ![16] S16.size inb_S128_S16_16, groupB d i x w 32768⟩, ⟨Rect.unit ![0] S16.size inb_S128_S16_0, groupA d i x w 0⟩]

/-- After the eight stores the tile's results are its block of the output. -/
theorem stores_read (d : Dev nD) (i : grid0.Coords) (x : S16777216.Idx → BitVec 32) (w : S3x16.Idx → F .f32)
    (fr : Buf (Elt F) ((thrOf d i).loc cc0_scratch3)) (j : S128.Idx) :
    rV.view.read (Elt F) (rV.view.writes (Elt F) fr (stores d i x w)) j = tileOut i x w j := by
  refine View.read_writes_apply_of_pieces rV.view fr (tileOut i x w) (stores d i x w) ?_ j (View.cover_of_tiled (stores d i x w) (![16] : Fin 1 → ℕ) rfl j)
  intro p hp
  simp only [stores, List.mem_cons, List.not_mem_nil, or_false] at hp
  rcases hp with rfl | rfl | rfl | rfl | rfl | rfl | rfl | rfl
  · exact group_tileOut i x w 7 inb_S128_S16_112 _ (groupB_apply d i x w 7)
  · exact group_tileOut i x w 6 inb_S128_S16_96 _ (groupA_apply d i x w 6)
  · exact group_tileOut i x w 5 inb_S128_S16_80 _ (groupB_apply d i x w 5)
  · exact group_tileOut i x w 4 inb_S128_S16_64 _ (groupA_apply d i x w 4)
  · exact group_tileOut i x w 3 inb_S128_S16_48 _ (groupB_apply d i x w 3)
  · exact group_tileOut i x w 2 inb_S128_S16_32 _ (groupA_apply d i x w 2)
  · exact group_tileOut i x w 1 inb_S128_S16_16 _ (groupB_apply d i x w 1)
  · exact group_tileOut i x w 0 inb_S128_S16_0 _ (groupA_apply d i x w 0)

/-! ## The body -/

set_option maxHeartbeats 4000000 in
/-- A tile runs from its operands, its buffers and its semaphores at zero to the same, its block of the output at the
    results of its rows. -/
theorem body (d : Dev nD) (i : grid0.Coords) (q qw : PosShare TreeShare) (x : Buf (Elt F) (xLoc d)) (w : Buf (Elt F) (wLoc d))
    (o : Buf (Elt F) (oLoc d)) (fa : Buf (Elt F) ((thrOf d i).loc cc0_scratch0)) (fb : Buf (Elt F) ((thrOf d i).loc cc0_scratch1))
    (ft : Buf (Elt F) ((thrOf d i).loc cc0_scratch2)) (fr : Buf (Elt F) ((thrOf d i).loc cc0_scratch3))
    (O : CellTallies nD τ sig (HIx 1)) (W : Waits sig (HIx 1)) :
    iprop(Transfers.MayWaits (thrOf d i) (default : HIx 1) O
        ∗ (xV.view.loc (thrOf d i) ↦{q} x) ∗ (wV.view.loc (thrOf d i) ↦{qw} w)
        ∗ ((oSl i).view.loc (thrOf d i) ↦[(oSl i).view.set]{fullShare} o)
        ∗ (aV.view.loc (thrOf d i) ↦{fullShare} fa) ∗ (bV.view.loc (thrOf d i) ↦{fullShare} fb)
        ∗ (tV.view.loc (thrOf d i) ↦{fullShare} ft) ∗ (rV.view.loc (thrOf d i) ↦{fullShare} fr)
        ∗ semVal (thrOf d i, .dma cc0_scratch4.sem) 0 ∗ semVal (thrOf d i, .dma cc0_scratch5.sem) 0
        ∗ semVal (thrOf d i, .dma cc0_scoped0.sem) 0 ∗ semVal (thrOf d i, .dma cc0_scoped1.sem) 0
        ∗ owes (thrOf d i) O W)
      ⊢ (wp frame (wpE (nD := nD) (defs₀ (F := F)) 𝒱₀ (thrOf d i) none) Set.univ
          (cc0__sc_body (F := F) i xV (Memref.isWhole_whole _) wV (Memref.isWhole_whole _) oV (Memref.isWhole_whole _)
            aV (Memref.isWhole_whole _) bV (Memref.isWhole_whole _) tV (Memref.isWhole_whole _) rV (Memref.isWhole_whole _)
            cc0_scratch4 cc0_scratch5 cc0_scoped0 cc0_scoped1)
          fun _ => iprop((xV.view.loc (thrOf d i) ↦{q} x) ∗ (wV.view.loc (thrOf d i) ↦{qw} w)
            ∗ ((oSl i).view.loc (thrOf d i) ↦[(oSl i).view.set]{fullShare} outSC x w)
            ∗ (∃ f, aV.view.loc (thrOf d i) ↦{fullShare} f) ∗ (∃ f, bV.view.loc (thrOf d i) ↦{fullShare} f)
            ∗ (∃ f, tV.view.loc (thrOf d i) ↦{fullShare} f) ∗ (∃ f, rV.view.loc (thrOf d i) ↦{fullShare} f)
            ∗ semVal (thrOf d i, .dma cc0_scratch4.sem) 0 ∗ semVal (thrOf d i, .dma cc0_scratch5.sem) 0
            ∗ semVal (thrOf d i, .dma cc0_scoped0.sem) 0 ∗ semVal (thrOf d i, .dma cc0_scoped1.sem) 0
            ∗ ∃ W' : Waits sig (HIx 1), ⌜∀ p ∈ W', p ∈ W ∨ p.2 = none⌝ ∗ owes (thrOf d i) O W'
) : sProp 𝕄) := by
  rw [cc0__sc_body_eq_skeleton]; unfold cc0__sc_body_skel
  iintro ⟨#Hmw, Hx, Hw, Ho, Ha, Hb, Ht, Hr, Hs4, Hs5, Hs0, Hs1, HO⟩
  sl_exec
  rw [show View.write (Elt F) tV.view ft (body.sl.dma0 d w) Finset.univ = w from filled_t (d := d) (i := i) ft w]
  rw [filled_a (d := d) (i := i) _ (body.sl.dma0_1 d i x), show body.sl.dma0_1 d i x = slab x (tileBase i + 0) from read_slice_eq_slab (F := F) x (k0_off1_inb i) (fun _ => rfl) _ (off1_base i)]
  iapply (loop_bind d i xV (Memref.isWhole_whole _) wV (Memref.isWhole_whole _) oV (Memref.isWhole_whole _)
    aV (Memref.isWhole_whole _) bV (Memref.isWhole_whole _) tV (Memref.isWhole_whole _) rV (Memref.isWhole_whole _)
    cc0_scratch4 cc0_scratch5 cc0_scoped0 cc0_scoped1 _) $$ [Ha]
  · iexact Ha
  iintro Ha
  sl_exec
  rw [filled_b (d := d) (i := i) _ (body.sl.dma3 d i x), show body.sl.dma3 d i x = slab x (tileBase i + 32768) from read_slice_eq_slab (F := F) x (k0_off2_inb i 0) (fun _ => rfl) _ (off2_base i 0)]
  iapply (loop_bind d i xV (Memref.isWhole_whole _) wV (Memref.isWhole_whole _) oV (Memref.isWhole_whole _)
    bV (Memref.isWhole_whole _) aV (Memref.isWhole_whole _) tV (Memref.isWhole_whole _) rV (Memref.isWhole_whole _)
    cc0_scratch4 cc0_scratch5 cc0_scoped0 cc0_scoped1 _) $$ [Hb]
  · iexact Hb
  iintro Hb
  sl_exec
  rw [filled_a (d := d) (i := i) _ (body.sl.dma2 d i x), show body.sl.dma2 d i x = slab x (tileBase i + 65536) from read_slice_eq_slab (F := F) x (k0_off2_inb i 1) (fun _ => rfl) _ (off2_base i 1)]
  iapply (loop_bind d i xV (Memref.isWhole_whole _) wV (Memref.isWhole_whole _) oV (Memref.isWhole_whole _)
    aV (Memref.isWhole_whole _) bV (Memref.isWhole_whole _) tV (Memref.isWhole_whole _) rV (Memref.isWhole_whole _)
    cc0_scratch4 cc0_scratch5 cc0_scoped0 cc0_scoped1 _) $$ [Ha]
  · iexact Ha
  iintro Ha
  sl_exec
  rw [filled_b (d := d) (i := i) _ (body.sl.dma2_1 d i x), show body.sl.dma2_1 d i x = slab x (tileBase i + 98304) from read_slice_eq_slab (F := F) x (k0_off2_inb i 2) (fun _ => rfl) _ (off2_base i 2)]
  iapply (loop_bind d i xV (Memref.isWhole_whole _) wV (Memref.isWhole_whole _) oV (Memref.isWhole_whole _)
    bV (Memref.isWhole_whole _) aV (Memref.isWhole_whole _) tV (Memref.isWhole_whole _) rV (Memref.isWhole_whole _)
    cc0_scratch4 cc0_scratch5 cc0_scoped0 cc0_scoped1 _) $$ [Hb]
  · iexact Hb
  iintro Hb
  sl_exec
  rw [filled_a (d := d) (i := i) _ (body.sl.dma2_2 d i x), show body.sl.dma2_2 d i x = slab x (tileBase i + 131072) from read_slice_eq_slab (F := F) x (k0_off2_inb i 3) (fun _ => rfl) _ (off2_base i 3)]
  iapply (loop_bind d i xV (Memref.isWhole_whole _) wV (Memref.isWhole_whole _) oV (Memref.isWhole_whole _)
    aV (Memref.isWhole_whole _) bV (Memref.isWhole_whole _) tV (Memref.isWhole_whole _) rV (Memref.isWhole_whole _)
    cc0_scratch4 cc0_scratch5 cc0_scoped0 cc0_scoped1 _) $$ [Ha]
  · iexact Ha
  iintro Ha
  sl_exec
  rw [filled_b (d := d) (i := i) _ (body.sl.dma2_3 d i x), show body.sl.dma2_3 d i x = slab x (tileBase i + 163840) from read_slice_eq_slab (F := F) x (k0_off2_inb i 4) (fun _ => rfl) _ (off2_base i 4)]
  iapply (loop_bind d i xV (Memref.isWhole_whole _) wV (Memref.isWhole_whole _) oV (Memref.isWhole_whole _)
    bV (Memref.isWhole_whole _) aV (Memref.isWhole_whole _) tV (Memref.isWhole_whole _) rV (Memref.isWhole_whole _)
    cc0_scratch4 cc0_scratch5 cc0_scoped0 cc0_scoped1 _) $$ [Hb]
  · iexact Hb
  iintro Hb
  sl_exec
  rw [filled_a (d := d) (i := i) _ (body.sl.dma2_4 d i x), show body.sl.dma2_4 d i x = slab x (tileBase i + 196608) from read_slice_eq_slab (F := F) x (k0_off2_inb i 5) (fun _ => rfl) _ (off2_base i 5)]
  iapply (loop_bind d i xV (Memref.isWhole_whole _) wV (Memref.isWhole_whole _) oV (Memref.isWhole_whole _)
    aV (Memref.isWhole_whole _) bV (Memref.isWhole_whole _) tV (Memref.isWhole_whole _) rV (Memref.isWhole_whole _)
    cc0_scratch4 cc0_scratch5 cc0_scoped0 cc0_scoped1 _) $$ [Ha]
  · iexact Ha
  iintro Ha
  sl_exec
  rw [filled_b (d := d) (i := i) _ (body.sl.dma2_5 d i x), show body.sl.dma2_5 d i x = slab x (tileBase i + 229376) from read_slice_eq_slab (F := F) x (k0_off2_inb i 6) (fun _ => rfl) _ (off2_base i 6)]
  iapply (loop_bind d i xV (Memref.isWhole_whole _) wV (Memref.isWhole_whole _) oV (Memref.isWhole_whole _)
    bV (Memref.isWhole_whole _) aV (Memref.isWhole_whole _) tV (Memref.isWhole_whole _) rV (Memref.isWhole_whole _)
    cc0_scratch4 cc0_scratch5 cc0_scoped0 cc0_scoped1 _) $$ [Hb]
  · iexact Hb
  iintro Hb
  sl_exec
  sl_step
  have hv : ∀ j, body.sl.dma2_6 d i x w fr j = tileOut i x w j := stores_read d i x w fr
  have ho : ∀ e ∈ (oSl i).view.set, (oSl i).view.writes (Elt F) o [⟨Rect.whole S128, body.sl.dma2_6 d i x w fr⟩] e = outSC x w e := by
    intro e he
    obtain ⟨j, -, rfl⟩ := Finset.mem_map.mp he
    have h := View.read_writes_cons_hit_of_coords (oSl i).view o (Rect.whole S128) (body.sl.dma2_6 d i x w fr) [] j j
      (fun a => by show (j a).val = 0 + 1 * (j a).val; omega)
    exact h.trans (hv j)
  ihave Ho := (Entails.of_eq (show ((oSl i).view.loc (thrOf d i) ↦[(oSl i).view.set]{fullShare} (oSl i).view.writes (Elt F) o [⟨Rect.whole S128, body.sl.dma2_6 d i x w fr⟩] : sProp 𝕄)
    = (oSl i).view.loc (thrOf d i) ↦[(oSl i).view.set]{fullShare} outSC x w from pointsTo_congr ho)) $$ Ho
  isplitl [Hx]; · iexact Hx
  isplitl [Hw]; · iexact Hw
  isplitl [Ho]; · iexact Ho
  isplitl [Ha]; · iexists _; iexact Ha
  isplitl [Hb]; · iexists _; iexact Hb
  isplitl [Ht]; · iexists _; iexact Ht
  isplitl [Hr]; · iexists _; iexact Hr
  isplitl [Hs4]; · iexact Hs4
  isplitl [Hs5]; · iexact Hs5
  isplitl [Hs0]; · iexact Hs0
  isplitl [Hs1]; · iexact Hs1
  iexists _; isplitr; rotate_left; · iexact HO
  ipureintro
  intro p hp
  simp only [Finset.mem_insert] at hp
  rcases hp with rfl | rfl | rfl | rfl | rfl | rfl | rfl | rfl | rfl | rfl | hp <;> first | exact Or.inr rfl | exact Or.inl hp

end Cert.Proof

end
-- ==== Proof.Task.lean ====
/-
  The SparseCore call's obligations. What the handshakes carry: each SparseCore gets half of a share of the gestures and
  of the weights and its 2048 entries of the output; each tile a sixteenth of those shares and its 128 entries. Each
  brings the shares back as they were and its entries at their results.
-/
module

public import proofs.«01_k».proof.Proof.Tile
public import Idealize.ShloMosaic.Lib.ShareLeaves

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## Shares and sets -/

theorem nCore_zero : (K (F := F)).nCore 0 = 2 := rfl
theorem nSub_zero : (K (F := F)).nSub 0 = 16 := rfl

/-- SparseCore `c`'s share of the arrays every tile reads. -/
abbrev coreShare (c : Fin 2) : PosShare TreeShare := leaf 1 fullShare c
/-- Tile `(c, s)`'s share of them. -/
abbrev tileShare (c : Fin 2) (s : Fin 16) : PosShare TreeShare := leaf 4 (coreShare c) s

/-- The entries of the output SparseCore `c` writes. -/
def coreSet (c : Fin 2) : Finset S4096.Idx := Finset.univ.filter fun R => (R 0).val / 2048 = c.val
/-- The entries tile `(c, s)` writes. -/
def tileSet (c : Fin 2) (s : Fin 16) : Finset S4096.Idx := Finset.univ.filter fun R => (R 0).val / 128 = 16 * c.val + s.val

/-- A SparseCore's entries are its tiles'. -/
theorem tiles_cover (c : Fin 2) : (Finset.univ : Finset (Fin 16)).biUnion (tileSet c) = coreSet c := by
  ext R
  simp only [tileSet, coreSet, Finset.mem_biUnion, Finset.mem_filter, Finset.mem_univ, true_and]
  constructor
  · rintro ⟨s, h⟩; omega
  · intro h
    exact ⟨⟨(R 0).val / 128 - 16 * c.val, by have := c.isLt; omega⟩, by show _ = 16 * c.val + ((R 0).val / 128 - 16 * c.val); omega⟩

/-- The tiles of a SparseCore write distinct entries. -/
theorem tiles_disjoint (c : Fin 2) : ∀ s ∈ (Finset.univ : Finset (Fin 16)), ∀ s' ∈ (Finset.univ : Finset (Fin 16)), s ≠ s' → Disjoint (tileSet c s) (tileSet c s') := by
  intro s _ s' _ h
  refine Finset.disjoint_left.mpr fun R h1 h2 => h (Fin.ext ?_)
  simp only [tileSet, Finset.mem_filter, Finset.mem_univ, true_and] at h1 h2
  omega

/-- The two SparseCores write every entry, -/
theorem cores_cover : (Finset.univ : Finset (Fin 2)).biUnion coreSet = Finset.univ := by
  ext R
  simp only [coreSet, Finset.mem_biUnion, Finset.mem_filter, Finset.mem_univ, true_and, iff_true]
  have h : (R 0).val < 4096 := (R 0).isLt
  exact ⟨⟨(R 0).val / 2048, by omega⟩, rfl⟩

/-- and distinct ones. -/
theorem cores_disjoint : ∀ c ∈ (Finset.univ : Finset (Fin 2)), ∀ c' ∈ (Finset.univ : Finset (Fin 2)), c ≠ c' → Disjoint (coreSet c) (coreSet c') := by
  intro c _ c' _ h
  refine Finset.disjoint_left.mpr fun R h1 h2 => h (Fin.ext ?_)
  simp only [coreSet, Finset.mem_filter, Finset.mem_univ, true_and] at h1 h2
  omega

/-- The block the kernel slices out of the output at coordinates `(c, s)` is tile `(c, s)`'s. -/
theorem oSl_set (c : Fin 2) (s : Fin 16) : (oSl (coordsV c s)).view.set = tileSet c s := by
  ext R
  simp only [tileSet, Finset.mem_filter, Finset.mem_univ, true_and]
  have hr : tileRow (coordsV c s) = 2048 * c.val + 128 * s.val := rfl
  constructor
  · intro h
    obtain ⟨j, -, rfl⟩ := Finset.mem_map.mp h
    have e := emb_off11 (coordsV c s) j
    have hj : (j 0).val < 128 := (j 0).isLt
    show ((Rect.unit (s := S4096) (k0_off11 (coordsV c s)) S128.size (k0_off11_inb (coordsV c s))).emb j 0).val / 128 = _
    rw [e, hr]; omega
  · intro h
    refine Finset.mem_map.mpr ⟨fun a => ⟨(R 0).val % 128, ?_⟩, Finset.mem_univ _, ?_⟩
    · match a with | 0 => exact Nat.mod_lt _ (by decide)
    · funext a
      match a with
      | 0 =>
        refine Fin.ext ((emb_off11 (coordsV c s) _).trans ?_)
        show tileRow (coordsV c s) + (R 0).val % 128 = (R 0).val
        rw [hr]; omega

variable [FloatOps F]

/-! ## What the handshakes carry -/

section
variable (x : (d : Dev nD) → Buf (Elt F) (xLoc d)) (w : (d : Dev nD) → Buf (Elt F) (wLoc d)) (o : (d : Dev nD) → Buf (Elt F) (oLoc d))

/-- What one thread of the call holds: a share of the gestures and of the weights, and some entries of the output. -/
abbrev piece (d : Dev nD) (q : PosShare TreeShare) (I : Finset S4096.Idx) (f : Buf (Elt F) (oLoc d)) : sProp 𝕄 :=
  iprop((xLoc d ↦{q} x d) ∗ (wLoc d ↦{q} w d) ∗ (oLoc d ↦[I]{fullShare} f))

/-- The call's payloads. -/
def P : (K (F := F)).Pay (nD := nD) (Val := Elt F) (Name := ℕ) (U := UU) where
  st := fun q d c => match q with | 0 => piece x w d (coreShare (Fin.cast nCore_zero c)) (coreSet (Fin.cast nCore_zero c)) (o d)
  dn := fun q d c => match q with | 0 => piece x w d (coreShare (Fin.cast nCore_zero c)) (coreSet (Fin.cast nCore_zero c)) (outSC (x d) (w d))
  go := fun q d c i => match q with
    | 0 => piece x w d (tileShare (Fin.cast nCore_zero c) (Fin.cast nSub_zero i)) (tileSet (Fin.cast nCore_zero c) (Fin.cast nSub_zero i)) (o d)
  td := fun q d c i => match q with
    | 0 => piece x w d (tileShare (Fin.cast nCore_zero c) (Fin.cast nSub_zero i)) (tileSet (Fin.cast nCore_zero c) (Fin.cast nSub_zero i)) (outSC (x d) (w d))
  x := fun _ _ => iprop(emp)

instance P_storable : (P (F := F) x w o).IsStorable where
  st q d c := match q with
    | 0 => (inferInstance : BI.Storable (upEmb : UEmb _ 𝕄) (piece x w d (coreShare (Fin.cast nCore_zero c)) (coreSet (Fin.cast nCore_zero c)) (o d)))
  dn q d c := match q with
    | 0 => (inferInstance : BI.Storable (upEmb : UEmb _ 𝕄) (piece x w d (coreShare (Fin.cast nCore_zero c)) (coreSet (Fin.cast nCore_zero c)) (outSC (x d) (w d))))
  go q d c i := match q with
    | 0 => (inferInstance : BI.Storable (upEmb : UEmb _ 𝕄)
      (piece x w d (tileShare (Fin.cast nCore_zero c) (Fin.cast nSub_zero i)) (tileSet (Fin.cast nCore_zero c) (Fin.cast nSub_zero i)) (o d)))
  td q d c i := match q with
    | 0 => (inferInstance : BI.Storable (upEmb : UEmb _ 𝕄)
      (piece x w d (tileShare (Fin.cast nCore_zero c) (Fin.cast nSub_zero i)) (tileSet (Fin.cast nCore_zero c) (Fin.cast nSub_zero i)) (outSC (x d) (w d))))

/-! ## Splitting and joining -/

omit [FloatOps F] in
/-- A SparseCore's piece, at any contents of its entries, is its tiles'. -/
theorem piece_core (d : Dev nD) (c : Fin 2) (f : Buf (Elt F) (oLoc d)) :
    piece x w d (coreShare c) (coreSet c) f = bigSep Finset.univ fun s : Fin 16 => piece x w d (tileShare c s) (tileSet c s) f := by
  rw [bigSep_sep', bigSep_sep']
  unfold piece
  rw [pointsTo_leaves Finset.univ (x d) 4 (coreShare c), pointsTo_leaves Finset.univ (w d) 4 (coreShare c), ← tiles_cover c,
    pointsTo_biUnion Finset.univ (ℓ := oLoc d) (tileSet c) (tiles_disjoint c)]
  rfl

omit [FloatOps F] in
/-- The three arrays whole, at any contents of the output, are the two SparseCores' pieces. -/
theorem piece_whole (d : Dev nD) (f : Buf (Elt F) (oLoc d)) :
    piece x w d fullShare Finset.univ f = bigSep Finset.univ fun c : Fin 2 => piece x w d (coreShare c) (coreSet c) f := by
  rw [bigSep_sep', bigSep_sep']
  unfold piece
  rw [pointsTo_leaves Finset.univ (x d) 1 fullShare, pointsTo_leaves Finset.univ (w d) 1 fullShare, ← cores_cover,
    pointsTo_biUnion Finset.univ (ℓ := oLoc d) coreSet cores_disjoint]
  rfl

/-- What the call takes for its two SparseCores is the three arrays whole, -/
theorem st0_eq (d : Dev nD) :
    (bigSep Finset.univ fun c : Fin ((K (F := F)).nCore 0) => (P x w o).st 0 d c) = piece x w d fullShare Finset.univ (o d) :=
  (piece_whole x w d (o d)).symm
/-- and what it hands back is those, the output at its results. -/
theorem dn0_eq (d : Dev nD) :
    (bigSep Finset.univ fun c : Fin ((K (F := F)).nCore 0) => (P x w o).dn 0 d c) = piece x w d fullShare Finset.univ (outSC (x d) (w d)) :=
  (piece_whole x w d (outSC (x d) (w d))).symm

/-- A SparseCore's piece goes out to its tiles, and theirs come back to it. -/
theorem vecSplit : (K (F := F)).VecSplit' (P x w o) 0 := by
  intro d c
  show piece x w d (coreShare (Fin.cast nCore_zero c)) (coreSet (Fin.cast nCore_zero c)) (o d) ⊢ |={Set.univ}=> iprop(
      (bigSep Finset.univ fun s : Fin 16 => piece x w d (tileShare (Fin.cast nCore_zero c) s) (tileSet (Fin.cast nCore_zero c) s) (o d))
      ∗ ((bigSep Finset.univ fun s : Fin 16 => piece x w d (tileShare (Fin.cast nCore_zero c) s) (tileSet (Fin.cast nCore_zero c) s) (outSC (x d) (w d)))
          -∗ piece x w d (coreShare (Fin.cast nCore_zero c)) (coreSet (Fin.cast nCore_zero c)) (outSC (x d) (w d))))
  rw [← piece_core x w d _ (o d), ← piece_core x w d _ (outSC (x d) (w d))]
  iintro H; imodintro
  isplitl [H]; · iexact H
  iintro H; iexact H

end

/-! ## A tile's own buffers and semaphores -/

section Tile

variable (d : Dev nD) (i : grid0.Coords)

/-- Semaphore `s` of the tile, as a cell of the machine. -/
abbrev cellV (s : DmaSem sig) : GSem nD τ sig := (thrOf d i, .dma s)

omit [FloatOps F] in
/-- The tile's four semaphores are among its own: they are them and the rest. -/
theorem ownSems0_V :
    (ownSems0 (thrOf d i) : sProp 𝕄)
      = iprop(semVal (cellV d i cc0_scratch4.sem) 0 ∗ semVal (cellV d i cc0_scratch5.sem) 0 ∗ semVal (cellV d i cc0_scoped0.sem) 0 ∗ semVal (cellV d i cc0_scoped1.sem) 0
          ∗ bigSep (((((ownCells (thrOf d i)).erase (cellV d i cc0_scratch4.sem)).erase (cellV d i cc0_scratch5.sem)).erase (cellV d i cc0_scoped0.sem)).erase
              (cellV d i cc0_scoped1.sem)) fun g => semVal g 0) := by
  have own : ∀ s : DmaSem sig, (SemLoc.dma s : SemLoc sig).isScoped .scVector = true → cellV d i s ∈ ownCells (thrOf d i) :=
    fun s hs => mem_ownCells.mpr ⟨rfl, hs⟩
  have ne : ∀ s s' : DmaSem sig, s ≠ s' → cellV d i s ≠ cellV d i s' := fun s s' h e => h (SemLoc.dma.inj (Prod.mk.inj e).2)
  unfold SparseCore.Cfg.ownSems0
  rw [SparseCore.bigSep_erase' (own cc0_scratch4.sem (by decide)),
    SparseCore.bigSep_erase' (Finset.mem_erase.mpr ⟨ne _ _ (by decide), own cc0_scratch5.sem (by decide)⟩),
    SparseCore.bigSep_erase' (Finset.mem_erase.mpr ⟨ne _ _ (by decide), Finset.mem_erase.mpr ⟨ne _ _ (by decide), own cc0_scoped0.sem (by decide)⟩⟩),
    SparseCore.bigSep_erase' (Finset.mem_erase.mpr ⟨ne _ _ (by decide), Finset.mem_erase.mpr ⟨ne _ _ (by decide), Finset.mem_erase.mpr ⟨ne _ _ (by decide),
      own cc0_scoped1.sem (by decide)⟩⟩⟩)]

/-- A scratch buffer of the tile, as a buffer of the device. -/
abbrev refV (r : Ref sig .scVector) : DevRef τ sig := (thrOf d i).2.devRef r

omit [FloatOps F] in
/-- The tile's four scratch buffers are among its own: they are them, at some contents, and the rest. -/
theorem ownBufs_V :
    (ownBufs (thrOf d i) : sProp 𝕄)
      = iprop((∃ f, (thrOf d i).loc cc0_scratch0 ↦{fullShare} f) ∗ (∃ f, (thrOf d i).loc cc0_scratch1 ↦{fullShare} f)
          ∗ (∃ f, (thrOf d i).loc cc0_scratch2 ↦{fullShare} f) ∗ (∃ f, (thrOf d i).loc cc0_scratch3 ↦{fullShare} f)
          ∗ bigSep (((((ownRefs (τ := τ) (thrOf d i).2).erase (refV d i cc0_scratch0)).erase (refV d i cc0_scratch1)).erase (refV d i cc0_scratch2)).erase (refV d i cc0_scratch3))
              fun b => iprop(∃ f, ((d, b) : Loc nD τ sig) ↦{fullShare} f)) := by
  have ne : ∀ r r' : Ref sig .scVector, r ≠ r' → refV d i r ≠ refV d i r' := fun r r' h e => h (Proc.devRef_injective _ e)
  have own : ∀ r : Ref sig .scVector, (refV d i r).owner = _ → refV d i r ∈ ownRefs (τ := τ) (thrOf d i).2 :=
    fun r h => SparseCore.Cfg.mem_ownRefs_of_owner (p := (thrOf d i).2) (b := refV d i r) h
  unfold SparseCore.Cfg.ownBufs
  refine (SparseCore.bigSep_erase' (own cc0_scratch0 rfl)).trans ?_
  rw [SparseCore.bigSep_erase' (Finset.mem_erase.mpr ⟨ne _ _ (by decide), own cc0_scratch1 rfl⟩),
    SparseCore.bigSep_erase' (Finset.mem_erase.mpr ⟨ne _ _ (by decide), Finset.mem_erase.mpr ⟨ne _ _ (by decide), own cc0_scratch2 rfl⟩⟩),
    SparseCore.bigSep_erase' (Finset.mem_erase.mpr ⟨ne _ _ (by decide), Finset.mem_erase.mpr ⟨ne _ _ (by decide), Finset.mem_erase.mpr ⟨ne _ _ (by decide),
      own cc0_scratch3 rfl⟩⟩⟩)]

end Tile

/-! ## The obligation -/

section
variable (x : (d : Dev nD) → Buf (Elt F) (xLoc d)) (w : (d : Dev nD) → Buf (Elt F) (wLoc d)) (o : (d : Dev nD) → Buf (Elt F) (oLoc d))

/-- The task of tile `(c, s)`, from what its handshake brings and its own storage. -/
theorem task (d : Dev nD) (c : Fin 2) (s : Fin 16) (O : CellTallies nD τ sig (HIx 1)) (W : Waits sig (HIx 1)) (hO : ∀ g, O g none = 0) :
    iprop(levAts (K (F := F)).L (K (F := F)).lev ∗ emp ∗ piece x w d (tileShare c s) (tileSet c s) (o d)
        ∗ scopedBufs (thrOf d (coordsV c s)) ∗ scopedSems0 (thrOf d (coordsV c s)) ∗ owes (thrOf d (coordsV c s)) O W)
      ⊢ (wp frame (wpE (nD := nD) (defs₀ (F := F)) 𝒱₀ (thrOf d (coordsV c s)) none) Set.univ
          (cc0__sc_body (F := F) (coordsV c s) xV (Memref.isWhole_whole _) wV (Memref.isWhole_whole _) oV (Memref.isWhole_whole _)
            aV (Memref.isWhole_whole _) bV (Memref.isWhole_whole _) tV (Memref.isWhole_whole _) rV (Memref.isWhole_whole _)
            cc0_scratch4 cc0_scratch5 cc0_scoped0 cc0_scoped1)
          fun _ => iprop(piece x w d (tileShare c s) (tileSet c s) (outSC (x d) (w d))
            ∗ scopedBufs (thrOf d (coordsV c s)) ∗ scopedSems0 (thrOf d (coordsV c s))
            ∗ ∃ W', ⌜∀ p ∈ W', p ∈ W ∨ p.2 = none ∨ p.2 = some (0 : Fin 1)⌝ ∗ owes (thrOf d (coordsV c s)) O W') : sProp 𝕄) := by
  rw [(K (F := F)).scopedBufs_V facts d _ _, SparseCore.Cfg.scopedSems0_V (Val := Elt F) d _ _, ownSems0_V, ownBufs_V, ← oSl_set c s]
  iintro ⟨#Hlv, -, ⟨Hx, Hw, Ho⟩, ⟨⟨%fa, Ha⟩, ⟨%fb, Hb⟩, ⟨%ft, Ht⟩, ⟨%fr, Hr⟩, Hbufs⟩, ⟨Hs4, Hs5, Hs0, Hs1, Hsems⟩, HO⟩
  ihave Hmw := (show levAts (K (F := F)).L (K (F := F)).lev ⊢ Transfers.MayWaits (thrOf d (coordsV c s)) (default : HIx 1) O from
    (K (F := F)).mayWaits_none (thr := thrOf d (coordsV c s)) hO) $$ Hlv
  iapply (wp_wand_r Idealize.ShloMosaic.frame (wpE (nD := nD) (defs₀ (F := F)) 𝒱₀ (thrOf d (coordsV c s)) none) Set.univ)
  isplitl [Hmw Hx Hw Ho Ha Hb Ht Hr Hs4 Hs5 Hs0 Hs1 HO]
  · iapply (body d (coordsV c s) (tileShare c s) (tileShare c s) (x d) (w d) (o d) fa fb ft fr O W)
    isplitl [Hmw]; · iexact Hmw
    isplitl [Hx]; · iexact Hx
    isplitl [Hw]; · iexact Hw
    isplitl [Ho]; · iexact Ho
    isplitl [Ha]; · iexact Ha
    isplitl [Hb]; · iexact Hb
    isplitl [Ht]; · iexact Ht
    isplitl [Hr]; · iexact Hr
    isplitl [Hs4]; · iexact Hs4
    isplitl [Hs5]; · iexact Hs5
    isplitl [Hs0]; · iexact Hs0
    isplitl [Hs1]; · iexact Hs1
    iexact HO
  iintro %u ⟨Hx, Hw, Ho, Ha, Hb, Ht, Hr, Hs4, Hs5, Hs0, Hs1, %W', %hW', HO⟩
  isplitl [Hx Hw Ho]
  · isplitl [Hx]; · iexact Hx
    isplitl [Hw]; · iexact Hw
    iexact Ho
  isplitl [Ha Hb Ht Hr Hbufs]
  · isplitl [Ha]; · iexact Ha
    isplitl [Hb]; · iexact Hb
    isplitl [Ht]; · iexact Ht
    isplitl [Hr]; · iexact Hr
    iexact Hbufs
  isplitl [Hs4 Hs5 Hs0 Hs1 Hsems]
  · isplitl [Hs4]; · iexact Hs4
    isplitl [Hs5]; · iexact Hs5
    isplitl [Hs0]; · iexact Hs0
    isplitl [Hs1]; · iexact Hs1
    iexact Hsems
  iexists W'; isplitr
  · ipureintro; exact fun p hp => (hW' p hp).imp_right Or.inl
  iexact HO

/-- The kernel's row of the body table on a vector subcore. -/
theorem defs₀_vector (c : Fin τ.nSC) (s : Fin τ.nSub) :
    defs₀ (F := F) (.scVector c s) 0 ()
      = SparseCore.onTile hcore0 hsub0 (fun c s => cc0__sc_body (coordsV c s)
          xV (Memref.isWhole_whole _) wV (Memref.isWhole_whole _) oV (Memref.isWhole_whole _)
          aV (Memref.isWhole_whole _) bV (Memref.isWhole_whole _) tV (Memref.isWhole_whole _) rV (Memref.isWhole_whole _)
          cc0_scratch4 cc0_scratch5 cc0_scoped0 cc0_scoped1) ⟨⟩ c s := rfl

set_option maxRecDepth 16384 in
/-- Every tile's task meets the call's obligation. -/
theorem tileObl : (K (F := F)).TileObl (D (F := F)) 𝒱 (P x w o) v₀ 0 := by
  intro d c i O W hO _ _
  simp only [show (P x w o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task x w o d (Fin.cast nCore_zero c) (Fin.cast nSub_zero i) O W hO

end

end Cert.Proof

end
-- ==== Proof.Block.lean ====
/-
  The TensorCore kernel's body on one block of 1024 rows: its integer sums along the rows are the rows' totals, and what
  it stores is each row's result.
-/
module

public import proofs.«01_k».proof.Proof.Tile
public import proofs.«01_k».proof.Proof.Gen.KernelIdeal.Points
public import Idealize.ShloMosaic.PureOps.Reduce
public import Idealize.ShloMosaic.Lib.Pipeline.Value
public import Idealize.ShloMosaic.Lib.Pipeline.Frame

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The sums along the rows -/

/-- A 1024×2048 matrix of words read off a one-axis array, at row `R` and column `k`. -/
theorem matrix_apply (x : S2097152.Idx → BitVec 32) (j : S1024x2048.Idx) (R k : ℕ) (h0 : (j 0).val = R) (h1 : (j 1).val = k) :
    k1_pay2 (F := F) x j = wordAt x (2048 * R + k) := by
  have hR : (j 0).val < 1024 := (j 0).isLt
  have hk : (j 1).val < 2048 := (j 1).isLt
  have hb : 2048 * R + k < 2097152 := by omega
  unfold wordAt
  rw [dif_pos hb]
  show shapeCast S1024x2048 (shapeCast S2097152 x shapeCasts_S2097152_S2097152) shapeCasts_S2097152_S1024x2048 j = _
  rw [shapeCast_self]
  refine shapeCast_apply x _ j _ ?_
  rw [Shape.rowMajor_val_one, Shape.rowMajor_val_two]
  show 2048 * R + k = (j 0).val * 2048 + (j 1).val
  omega

/-- An integer sum along the rows of a 1024×2048 matrix is, at row `j`, the sum over the columns. -/
theorem rows_add (y : IVec S1024x2048 32) (j : S1024.Idx) (f : ℕ → BitVec 32)
    (hf : ∀ i : S1024x2048.Idx, (i 0).val = (j 0).val → y i = f (i 1).val) :
    multiReductionI .add [1] S1024 y 0#32 reduces_S1024x2048_S1024 rfl j = ∑ k ∈ Finset.range 2048, f k := by
  refine (congrFun (multiReductionI_eq_reduceFold .add y 0#32 reduces_S1024x2048_S1024 rfl) j).trans ?_
  show reduceFold reduces_S1024x2048_S1024 (· + ·) (0#32 : BitVec 32) y j = _
  rw [reduceFold_add_eq_sum, show (0#32 : BitVec 32) = 0 from rfl, zero_add, Shape.Reduces.sum_filter_drop_single]
  rw [Finset.sum_range]
  refine Finset.sum_congr rfl fun k _ => ?_
  refine (hf _ ?_).trans ?_
  · rfl
  · rfl

/-- The kernel's row sums are the rows' totals, -/
theorem rows_sum (x : S2097152.Idx → BitVec 32) (j : S1024.Idx) :
    multiReductionI .add [1] S1024 (k1_pay2 (F := F) x) 0#32 reduces_S1024x2048_S1024 rfl j = rowSum x (j 0).val :=
  rows_add _ j (fun k => wordAt x (2048 * (j 0).val + k)) fun i hi => matrix_apply (F := F) x i _ _ hi rfl

/-- and those of the shifted words the shifted words' totals. -/
theorem rows_halves (x : S2097152.Idx → BitVec 32) (j : S1024.Idx) :
    multiReductionI .add [1] S1024 (shrsi (k1_pay2 (F := F) x) (broadcast S1024x2048 1#32)) 0#32 reduces_S1024x2048_S1024 rfl j = rowHalves x (j 0).val :=
  rows_add _ j (fun k => half (wordAt x (2048 * (j 0).val + k))) fun i hi => congrArg half (matrix_apply (F := F) x i _ _ hi rfl)

variable [FloatOps F]

/-- What the body leaves of a block: each row's result, every weight read at lane 0. -/
def tcBlock (x : S2097152.Idx → BitVec 32) (w : S3x16.Idx → F .f32) : S1024.Idx → F .f32 := fun j =>
  tcTail (weightAt w 0 0) (weightAt w 1 0) (weightAt w 2 0) (rowSum x (j 0).val) (rowHalves x (j 0).val)

/-- The stored value is that. -/
theorem stored_eq (x : S2097152.Idx → BitVec 32) (a b c : Vec F S1x1 .f32) (j : S1024.Idx) :
    k1_pay1 (k1_pay6 (F := F) x a b c) (k1_pay7 x) j
      = tcTail (extractAt ![0, 0] a inpos_S1x1_p0_0) (extractAt ![0, 0] b inpos_S1x1_p0_0) (extractAt ![0, 0] c inpos_S1x1_p0_0)
          (rowSum x (j 0).val) (rowHalves x (j 0).val) := by
  rw [← rows_sum (F := F) x j, ← rows_halves (F := F) x j]
  rfl

section
variable (d : Dev nD) (i : grid1.Coords)
  (M0 : Memref sig .tc .vmem S2097152 .i32) (h0 : M0.IsWhole) (M1 : Memref sig .tc .vmem S3x16 .f32) (h1 : M1.IsWhole)
  (M2 : Memref sig .tc .vmem S1024 .f32) (h2 : M2.IsWhole)

omit [FloatOps F] in
/-- A one-entry load at the head of row `r` of the weights reads weight `r` at lane 0. -/
theorem loadOne (f1 : Buf (Elt F) (M1.view.loc (T d : Thread nD τ))) (r : Fin 3) (inb : ∀ a, (![r.val, 0] : Fin 2 → ℕ) a + S1x1.size a ≤ S3x16.size a) :
    extractAt ![0, 0] (M1.view.readAt (Elt F) (Rect.unit (s := S3x16) ![r.val, 0] S1x1.size inb).toLoadRect f1) inpos_S1x1_p0_0
      = weightAt (M1.view.read (Elt F) f1) r 0 := by
  show M1.view.read (Elt F) f1 _ = M1.view.read (Elt F) f1 _
  refine congrArg _ (funext fun a => Fin.ext ?_)
  match a with
  | 0 => show r.val + 1 * 0 = r.val; omega
  | 1 => rfl

/-- The body from its three buffers: the rows and the weights as they were, the result's buffer reading the block's
    results. -/
theorem block_body (f0 : Buf (Elt F) (M0.view.loc (T d))) (f1 : Buf (Elt F) (M1.view.loc (T d))) (f2 : Buf (Elt F) (M2.view.loc (T d))) :
    iprop((M0.view.loc (T d) ↦{fullShare} f0) ∗ (M1.view.loc (T d) ↦{fullShare} f1) ∗ (M2.view.loc (T d) ↦{fullShare} f2))
      ⊢ (wp frame (wpE (nD := nD) (defs₀ (F := F)) 𝒱₀ (T d) none) Set.univ (cc1__tc_body (F := F) i M0 h0 M1 h1 M2 h2)
          fun _ => iprop((M0.view.loc (T d) ↦{fullShare} f0) ∗ (M1.view.loc (T d) ↦{fullShare} f1)
            ∗ ∃ f, ⌜M2.view.read (Elt F) f = tcBlock (M0.view.read (Elt F) f0) (M1.view.read (Elt F) f1)⌝ ∗ (M2.view.loc (T d) ↦{fullShare} f)) : sProp 𝕄) := by
  rw [cc1__tc_body_eq_skeleton]
  unfold cc1__tc_body_skel
  iintro ⟨H0, H1, H2⟩
  sl_exec
  sl_step
  isplitl [H0]; · iexact H0
  isplitl [H1]; · iexact H1
  iexists _; isplitr; swap; (· iexact H2)
  ipureintro
  funext y
  have hy : (Rect.unit (s := S1024) ![0] S1024.size inb_S1024_S1024_0).emb y = y := by
    funext a; exact Fin.ext (by rw [Fin.eq_zero a]; show 0 + 1 * (y 0).val = (y 0).val; omega)
  have hl : (M0.view.readAt (Elt F) (Rect.unit (s := S2097152) ![0] S2097152.size inb_S2097152_S2097152_0).toLoadRect f0) = M0.view.read (Elt F) f0 :=
    View.ld_unit_zero (by funext a; rw [Fin.eq_zero a]; rfl) inb_S2097152_S2097152_0 (M0.view.read (Elt F) f0)
  have hw := View.read_writes_cons_emb M2.view f2 (Rect.unit (s := S1024) ![0] S1024.size inb_S1024_S1024_0)
    (k1_pay1 (block_body.sl.r d M0 M1 f0 f1) (block_body.sl.r_1 d M0 f0)) [] y
  rw [hy] at hw
  refine hw.trans ?_
  unfold block_body.sl.r block_body.sl.r_1
  rw [hl]
  refine (stored_eq _ _ _ _ y).trans ?_
  unfold tcBlock
  rw [← loadOne d M1 f1 0 inb_S3x16_S1x1_0_0, ← loadOne d M1 f1 1 inb_S3x16_S1x1_1_0, ← loadOne d M1 f1 2 inb_S3x16_S1x1_2_0]
  rfl

end

end Cert.Proof

end
-- ==== Proof.Region.lean ====
/-
  The TensorCore kernel's region: its proof data at an entry valuation, its body obligation from the block's run, the
  value of its output array, and the region as a step of @main.
-/
module

public import proofs.«01_k».proof.Proof.Block
public import Idealize.ShloMosaic.Lib.Pipeline.RegionsLoop
public import Idealize.ShloMosaic.Lib.Pipeline.FrameBody

@[expose] public section

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- What the TensorCore leaves in its output: entry `R` is the result of row `4096 + R`, its weights read at lane 0. -/
def outTC (x : S16777216.Idx → BitVec 32) (w : S3x16.Idx → F .f32) : S4096.Idx → F .f32 := fun R =>
  tcTail (weightAt w 0 0) (weightAt w 1 0) (weightAt w 2 0) (rowSum x (4096 + (R 0).val)) (rowHalves x (4096 + (R 0).val))

/-! ## The blocks -/

section
variable (x : S16777216.Idx → BitVec 32) (w : S3x16.Idx → F .f32)

/-- The rows staged at point `t`. -/
abbrev xBlk (t : Fin cfg1.N) : S2097152.Idx → BitVec 32 := ((cfg1.win 0).blk t).view.read (Elt F) x
/-- The weights staged there. -/
abbrev wBlk (t : Fin cfg1.N) : S3x16.Idx → F .f32 := ((cfg1.win 1).blk t).view.read (Elt F) w

omit [FloatOps F] in
/-- The block of the gestures at point `t` is block `t + 4` of the array. -/
theorem xIndex (t : Fin cfg1.N) : win1_0.index t 0 = t.val + 4 := by
  rcases fin_N1 t with rfl | rfl | rfl | rfl <;> decide +kernel

omit [FloatOps F] in
/-- Every point stages the weights from their head. -/
theorem wIndex (t : Fin cfg1.N) (a : Fin 2) : win1_1.index t a = 0 := by
  rcases fin_N1 t with rfl | rfl | rfl | rfl <;> revert a <;> decide +kernel

omit [FloatOps F] in
/-- The block of the output at point `t` is block `t`. -/
theorem oIndex (t : Fin cfg1.N) : win1_2.index t 0 = t.val := by
  rcases fin_N1 t with rfl | rfl | rfl | rfl <;> decide +kernel

/-- A word of the staged rows is the array's, `t + 4` blocks on. -/
theorem xBlk_word (t : Fin cfg1.N) (n : ℕ) (hn : n < 2097152) : wordAt (xBlk (F := F) x t) n = wordAt x (2097152 * (t.val + 4) + n) := by
  have ht : t.val < 4 := t.isLt
  unfold wordAt
  rw [dif_pos hn, dif_pos (by omega)]
  show x _ = x _
  refine congrArg x (funext fun a => Fin.ext ?_)
  rw [Fin.eq_zero a]
  show win1_0.index t 0 * 2097152 + 1 * n = 2097152 * (t.val + 4) + n
  rw [xIndex]; omega

/-- The staged weights are the weights. -/
theorem wBlk_eq (t : Fin cfg1.N) : wBlk w t = w := by
  funext j
  show w _ = w _
  refine congrArg w (funext fun a => Fin.ext ?_)
  show win1_1.index t a * S3x16.size a + 1 * (j a).val = (j a).val
  rw [wIndex]; omega

/-- The results of a block are the output's entries of that block. -/
theorem block_out (t : Fin cfg1.N) : tcBlock (xBlk (F := F) x t) (wBlk w t) = ((cfg1.win 2).blk t).view.read (Elt F) (outTC x w) := by
  funext j
  have ht : t.val < 4 := t.isLt
  have hj : (j 0).val < 1024 := (j 0).isLt
  have he : (((cfg1.win 2).blk t).view.emb j 0).val = 1024 * t.val + (j 0).val := by
    show win1_2.index t 0 * 1024 + 1 * (j 0).val = _
    rw [oIndex]; omega
  have hs : rowSum (xBlk (F := F) x t) (j 0).val = rowSum x (4096 + (((cfg1.win 2).blk t).view.emb j 0).val) := by
    unfold rowSum
    refine Finset.sum_congr rfl fun k hk => ?_
    have := Finset.mem_range.mp hk
    rw [xBlk_word x t _ (by omega), he]
    exact congrArg (wordAt x) (by omega)
  have hc : rowHalves (xBlk (F := F) x t) (j 0).val = rowHalves x (4096 + (((cfg1.win 2).blk t).view.emb j 0).val) := by
    unfold rowHalves
    refine Finset.sum_congr rfl fun k hk => ?_
    have := Finset.mem_range.mp hk
    rw [xBlk_word x t _ (by omega), he]
    exact congrArg (fun n => half (wordAt x n)) (by omega)
  show tcBlock (xBlk (F := F) x t) (wBlk w t) j = outTC x w (((cfg1.win 2).blk t).view.emb j)
  unfold tcBlock outTC
  rw [hs, hc, wBlk_eq]

end

/-! ## The proof data -/

variable (V : (c : Dev nD) → (b : Ref sig .tc) → Buf (Elt F) ((c : Thread nD τ).loc b)) (b : ℕ)

/-- The proof data of the region entered at valuation `V` with recorded waits at levels up to `b`: the arrays at `V`;
    after the body the inputs as staged and the output's block at its results; nothing owed. -/
def dat (c : Dev nD) : Dat τ (Elt F) (HIx 1) ℕ UU ℕ cfg1 c where
  A w := V c (Pipeline.arrRef spec1 w)
  after w t := match w with
    | ⟨0, _⟩ => xBlk (F := F) (V c main_v0) t
    | ⟨1, _⟩ => wBlk (V c main_v7) t
    | ⟨2, _⟩ => tcBlock (xBlk (F := F) (V c main_v0) t) (wBlk (V c main_v7) t)
  Φ _ := Pipeline.scopedRest (Ix := HIx 1) (Name := ℕ) (U := UU) (Lvl := ℕ) (Val := Elt F) spec1 c
  q _ := fullShare
  owed _ := 0
  recorded _ := {p | (K (F := F)).lev ((c : Thread nD τ), p.1) p.2 ≤ b}

/-- The rows' buffer holds the point's block when the body runs, -/
theorem before_x (c : Dev nD) (t : Fin cfg1.N) (d) : (dat V b c).before 0 t d = xBlk (F := F) (V c main_v0) t := by
  unfold Dat.before; rw [if_pos (fetch1_0 t)]; rfl

/-- and the weights' buffer the weights. -/
theorem before_w (c : Dev nD) (t : Fin cfg1.N) (d) : (dat V b c).before 1 t d = wBlk (V c main_v7) t :=
  (dat V b c).before_in_eq_fetched 1 rfl (fun _ => rfl) (fun _ _ _ => rfl) (fun _ => rfl) t d

omit [FloatOps F] in
/-- Owning a whole memref at what it reads is its buffer at contents that read so. -/
theorem owns_isWhole {sp : Space} {s : Shape} {e : EltTy} (c : Dev nD) (M : Memref sig .tc sp s e) (h : M.IsWhole) (X : s.Idx → Elt F e) :
    (owns (c : Thread nD τ) M fullShare X : sProp 𝕄) = iprop(∃ f, ⌜M.view.read (Elt F) f = X⌝ ∗ (M.view.loc (c : Thread nD τ) ↦{fullShare} f)) := by
  unfold owns; rw [h.set_eq_univ]

/-- The body obligation. -/
theorem body_obligation (c : Dev nD) : BodyObligation (dat V b c) (defs₀ (F := F)) 𝒱₀ none Set.univ := fun t => by
  rw [bigSep_W1, bigSep_W1]
  have e0 := fun X => owns_isWhole (F := F) c (st1_0 t) (hstage1_0 ((cfg1.slots t 0).cast nbuf1_0)) X
  have e1 := fun X => owns_isWhole (F := F) c (st1_1 t) (hstage1_1 ((cfg1.slots t 1).cast nbuf1_1)) X
  have e2 := fun X => owns_isWhole (F := F) c (st1_2 t) (hstage1_2 ((cfg1.slots t 2).cast nbuf1_2)) X
  rw [show (dat V b c).Φ t.succ = (dat V b c).Φ t.castSucc from rfl,
    show (dat V b c).owesAt none t.succ = (dat V b c).owesAt none t.castSucc from rfl]
  show iprop(_ ∗ _ ∗ (∃ d, owns (c : Thread nD τ) (st1_0 t) fullShare ((dat V b c).before 0 t d)) ∗ (∃ d, owns (c : Thread nD τ) (st1_1 t) fullShare ((dat V b c).before 1 t d))
      ∗ (∃ d, owns (c : Thread nD τ) (st1_2 t) fullShare ((dat V b c).before 2 t d)))
    ⊢ wp frame (wpE (nD := nD) (defs₀ (F := F)) 𝒱₀ (c : Thread nD τ) none) Set.univ (bodyAt1 t) fun _ =>
      iprop(_ ∗ _ ∗ owns (c : Thread nD τ) (st1_0 t) fullShare ((dat V b c).after 0 t) ∗ owns (c : Thread nD τ) (st1_1 t) fullShare ((dat V b c).after 1 t)
        ∗ owns (c : Thread nD τ) (st1_2 t) fullShare ((dat V b c).after 2 t))
  simp only [before_x, before_w]
  simp only [e0, e1, e2]
  iintro ⟨HΦ, Howes, ⟨%d0, %f0, %hf0, H0⟩, ⟨%d1, %f1, %hf1, H1⟩, ⟨%d2, %f2, -, H2⟩⟩
  iapply (wp_wand_r Idealize.ShloMosaic.frame (wpE (nD := nD) (defs₀ (F := F)) 𝒱₀ (c : Thread nD τ) none) Set.univ)
  isplitl [H0 H1 H2]
  · iapply (block_body c (grid1.coords t) (st1_0 t) _ (st1_1 t) _ (st1_2 t) _ f0 f1 f2)
    isplitl [H0]; · iexact H0
    isplitl [H1]; · iexact H1
    iexact H2
  iintro %u ⟨H0, H1, %f, %hf, H2⟩
  isplitl [HΦ]; · iexact HΦ
  isplitl [Howes]; · iexact Howes
  isplitl [H0]
  · iexists f0; isplitr; · ipureintro; exact hf0
    iexact H0
  isplitl [H1]
  · iexists f1; isplitr; · ipureintro; exact hf1
    iexact H1
  iexists f; isplitr
  · ipureintro; rw [hf, hf0, hf1]; rfl
  iexact H2

/-! ## The output array -/

/-- What a write-back moves is the output's block. -/
theorem flushed_eq (c : Dev nD) (t : Fin cfg1.N) :
    (dat V b c).flushed 2 t = ((cfg1.win 2).blk t).view.read (Elt F) (outTC (V c main_v0) (V c main_v7)) :=
  (show (dat V b c).flushed 2 t = tcBlock (xBlk (F := F) (V c main_v0) t) (wBlk (V c main_v7) t) from rfl).trans (block_out (V c main_v0) (V c main_v7) t)

omit [FloatOps F] in
/-- The blocks cover the output. -/
theorem out_cover (i : S4096.Idx) : ∃ t : Fin cfg1.N, (cfg1.win 2).flush t = true ∧ i ∈ ((cfg1.win 2).blk t).view.set := by
  have h0 : (i 0).val < 4096 := (i 0).isLt
  refine ⟨⟨(i 0).val / 1024, by show _ < grid1.N; rw [N_1]; omega⟩, flush1_2 _, ?_⟩
  refine Finset.mem_map.mpr ⟨fun a => ⟨(i 0).val % 1024, ?_⟩, Finset.mem_univ _, ?_⟩
  · match a with | 0 => exact Nat.mod_lt _ (by decide)
  · funext a
    refine Fin.ext ?_
    rw [Fin.eq_zero a]
    show win1_2.index _ 0 * 1024 + 1 * ((i 0).val % 1024) = (i 0).val
    rw [oIndex]
    show (i 0).val / 1024 * 1024 + 1 * ((i 0).val % 1024) = (i 0).val
    omega

/-- The output array after the region. -/
theorem arrAt_out (c : Dev nD) : (dat V b c).arrAt 2 cfg1.N = outTC (V c main_v0) (V c main_v7) :=
  (dat V b c).arrAt_eq_of_cover 2 _ (fun t _ => flushed_eq V b c t) out_cover

/-! ## The region as a step of @main -/

/-- The one pipeline prefetches no table. -/
abbrev adm : (p : Fin 1) → (pcfgs (F := F) p).Adm := fun p => (cfgs p).toPCfg_adm

/-- The proof data of every pipeline. -/
abbrev pdats : (p : Fin 1) → (c : Dev nD) → Dat τ (Elt F) (HIx 1) ℕ UU ℕ (Pipeline.pin (pcfgs (F := F)) adm p) c
  | 0 => fun c => dat V b c

/-- The core owes nothing and has waited at levels up to `b` only. -/
def clean (c : Dev nD) : sProp 𝕄 := iprop(∃ W, ⌜(K (F := F)).WBelow (c : Thread nD τ) W b⌝ ∗ owes (c : Thread nD τ) (0 : CellTallies nD τ sig (HIx 1)) W)

/-- The recorded waits of the region's ends are at levels up to `b`. -/
theorem clean_owesAt (c : Dev nD) (t : Fin (cfg1.N + 1)) : (clean b c : sProp 𝕄) ⊢ (dat V b c).owesAt none t := by
  unfold clean Pipeline.Dat.owesAt Pipeline.owesWithin
  iintro ⟨%W, %hW, HO⟩; iexists W; isplitr
  · ipureintro; exact fun p hp => Or.inl (hW p hp)
  iexact HO

theorem owesAt_clean (c : Dev nD) (t : Fin (cfg1.N + 1)) : (dat V b c).owesAt none t ⊢ (clean b c : sProp 𝕄) := by
  unfold clean Pipeline.Dat.owesAt Pipeline.owesWithin
  iintro ⟨%W, %hW, HO⟩; iexists W; isplitr
  · ipureintro
    intro p hp
    rcases hW hp with h | ⟨w, s, rfl⟩
    · exact h
    · exact Nat.zero_le _
  iexact HO

variable (Vp : (c : Dev nD) → (b : Ref sig .tc) → Buf (Elt F) ((c : Thread nD τ).loc b))

set_option backward.isDefEq.respectTransparency.types false in
/-- The region over every unscoped buffer at `V`, left with its output at the TensorCore's results and the rest as they
    were. -/
def reg (hout : ∀ c, Vp c main_v9 = outTC (V c main_v0) (V c main_v7)) (hne : ∀ c (r : Ref sig .tc), r ≠ main_v9 → Vp c r = V c r) :
    Pipeline.RegionSeg (pcfgs (F := F)) adm (pdats V b) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V b c).loose
  hwaits := Pipeline.hwaits_of_owed_zero _ _ _ _ (K (F := F)).L (K (F := F)).lev 0 fun _ _ => rfl
  pre c := iprop(unscopedBufs c (V c) ∗ clean b c)
  post c := iprop(unscopedBufs c (Vp c) ∗ clean b c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V b) launch1.win launch1.arr_whole c
      ((pdats V b 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (clean_owesAt V b c 0); iexact HO
    isplitr; · iempintro
    iexact Hrest
  hin c := by
    rw [show (pdats V b 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V b 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V b) ((pdats V b 0 c).share_full fun _ => rfl) (V c) (Vp c) ((pdats V b 0 c).arrAt · cfg1.N)
      (fun w => by
        fin_cases w
        · exact ((pdats V b 0 c).arrAt_in 0 rfl _).trans (hne c main_v0 (by decide)).symm
        · exact ((pdats V b 0 c).arrAt_in 1 rfl _).trans (hne c main_v7 (by decide)).symm
        · exact (arrAt_out V b c).trans (hout c).symm)
      (fun r hr => hne c r fun h => hr (h ▸ Finset.mem_image.mpr ⟨2, Finset.mem_univ _, rfl⟩))
    iintro ⟨Ha, HO, -, Hrest⟩
    imodintro
    isplitl [Ha Hrest]
    · iapply hjoin; isplitl [Ha] <;> iassumption
    iapply (owesAt_clean V b c (Fin.last _)); iexact HO

end Cert.Proof

end
-- ==== Proof.Main.lean ====
/-
  The program's run on every thread. @main on the TensorCore is eight host operations, the SparseCore call, the
  TensorCore's region, and two host operations; every weakly fair execution ends with the result buffer at a pure term
  of the arguments, the arguments unchanged and every counter at zero.
-/
module

public import proofs.«01_k».proof.Proof.Task
public import proofs.«01_k».proof.Proof.Region

@[expose] public section

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx)
open Idealize.ShloMosaic.StableHlo (held after seq)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## @main in four parts -/

/-- The host operations before the kernels: the gestures flattened, the weights repeated and stacked. -/
abbrev opsA : List (HloOp τ sig (Elt F)) :=
  [StableHlo.reshape main_arg0 main_v0 (rfl : (.i32 : EltTy) = .i32) shapeCasts_S8192x2048x1_S16777216,
   StableHlo.unary main_arg1 main_v1 (broadcastInDim S16 ![0] bcast_S1_S16_0 : (⟨S1, .f32⟩ : BufTy).Contents (Elt F) → (⟨S16, .f32⟩ : BufTy).Contents (Elt F)),
   StableHlo.unary main_arg2 main_v2 (broadcastInDim S16 ![0] bcast_S1_S16_0 : (⟨S1, .f32⟩ : BufTy).Contents (Elt F) → (⟨S16, .f32⟩ : BufTy).Contents (Elt F)),
   StableHlo.unary main_arg3 main_v3 (broadcastInDim S16 ![0] bcast_S1_S16_0 : (⟨S1, .f32⟩ : BufTy).Contents (Elt F) → (⟨S16, .f32⟩ : BufTy).Contents (Elt F)),
   StableHlo.unary main_v1 main_v4 (broadcastInDim S1x16 ![1] bcast_S16_S1x16_1 : (⟨S16, .f32⟩ : BufTy).Contents (Elt F) → (⟨S1x16, .f32⟩ : BufTy).Contents (Elt F)),
   StableHlo.unary main_v2 main_v5 (broadcastInDim S1x16 ![1] bcast_S16_S1x16_1 : (⟨S16, .f32⟩ : BufTy).Contents (Elt F) → (⟨S1x16, .f32⟩ : BufTy).Contents (Elt F)),
   StableHlo.unary main_v3 main_v6 (broadcastInDim S1x16 ![1] bcast_S16_S1x16_1 : (⟨S16, .f32⟩ : BufTy).Contents (Elt F) → (⟨S1x16, .f32⟩ : BufTy).Contents (Elt F)),
   StableHlo.nary ![main_v4, main_v5, main_v6] main_v7 (fun u => (concatenate S3x16 0 [⟨S1x16, (u 0 : (⟨S1x16, .f32⟩ : BufTy).Contents (Elt F))⟩, ⟨S1x16, (u 1 : (⟨S1x16, .f32⟩ : BufTy).Contents (Elt F))⟩, ⟨S1x16, (u 2 : (⟨S1x16, .f32⟩ : BufTy).Contents (Elt F))⟩] concatenates_S1x16_S1x16_S1x16_S3x16_d0 : (⟨S3x16, .f32⟩ : BufTy).Contents (Elt F)))]

/-- The host operations after them: the two halves joined, made a column. -/
abbrev opsB : List (HloOp τ sig (Elt F)) :=
  [StableHlo.binary main_v8 main_v9 main_v10 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)),
   StableHlo.reshape main_v10 main_v11 (rfl : (.f32 : EltTy) = .f32) shapeCasts_S8192_S8192x1]

/-- @main is the first operations, the SparseCore call, the region's call, the last operations. -/
theorem main_parts (d : Dev nD) : main (F := F) d = (seq opsA >>= fun _ => sc.run d 0 >>= fun _ =>
    SparseCore.liftProg (Prog.lift (.customCall (Pipeline.entry 0) ())) >>= fun _ => seq opsB >>= fun _ => pure ⟨⟩) := rfl

/-! ## What the buffers hold between the parts -/

variable (m : (ℓ : Loc nD τ sig) → Buf (Elt F) ℓ) (ρ : Dev nD → PrngReg)

/-- The TensorCore's unscoped buffers. -/
def ucRefs : Finset (DevRef τ sig) := (StableHlo.tcRefs τ sig).filter fun b => ¬ b.isScoped

omit [FloatOps F] in
/-- The unscoped buffers at a valuation are that set held at it. -/
theorem unscopedBufs_held (d : Dev nD) (W : Valuation τ sig (Elt F)) :
    (unscopedBufs d (fun b => W b) : sProp 𝕄) = held (T d) ucRefs W := by
  unfold unscopedBufs held ucRefs StableHlo.tcRefs
  rw [Finset.filter_map, bigSep_map]
  rfl

/-- A buffer of the TensorCore as the host operations name it. -/
abbrev dr (b : Ref sig .tc) : DevRef τ sig := Proc.devRef .tc b

/-- At the launch. -/
def valL (d : Dev nD) : Valuation τ sig (Elt F) := fun b => m (d, b)
/-- After the first operations. -/
def valA (d : Dev nD) : Valuation τ sig (Elt F) := after opsA (valL m d)
/-- After the SparseCore call. -/
def valB (d : Dev nD) : Valuation τ sig (Elt F) := Function.update (valA m d) (dr main_v8) (outSC (valA m d (dr main_v0)) (valA m d (dr main_v7)))
/-- After the region. -/
def valC (d : Dev nD) : Valuation τ sig (Elt F) := Function.update (valB m d) (dr main_v9) (outTC (valB m d (dr main_v0)) (valB m d (dr main_v7)))
/-- After the last operations. -/
def valD (d : Dev nD) : Valuation τ sig (Elt F) := after opsB (valC m d)

/-- What the SparseCore call carries: the gestures and the weights as they are, the output as it was. -/
abbrev Pm : (K (F := F)).Pay (nD := nD) (Val := Elt F) (Name := ℕ) (U := UU) :=
  P (fun d => valA m d (dr main_v0)) (fun d => valA m d (dr main_v7)) (fun d => valA m d (dr main_v8))

/-- The buffers the SparseCore call takes. -/
abbrev callRefs : Finset (DevRef τ sig) := {dr main_v0, dr main_v7, dr main_v8}

theorem callRefs_sub : callRefs ⊆ ucRefs := by decide

omit [FloatOps F] in
/-- Those buffers, held at a valuation, are the three arrays at it. -/
theorem held_call (d : Dev nD) (W : Valuation τ sig (Elt F)) :
    (held (T d) callRefs W : sProp 𝕄) = iprop((xLoc d ↦{fullShare} W (dr main_v0)) ∗ (wLoc d ↦{fullShare} W (dr main_v7)) ∗ oLoc d ↦{fullShare} W (dr main_v8)) := by
  unfold held callRefs
  rw [SparseCore.bigSep_insert' (by decide), SparseCore.bigSep_insert' (by decide), bigSep_singleton]

/-- Every buffer the call does not write is as it was. -/
theorem valB_ne (d : Dev nD) {b : DevRef τ sig} (h : b ≠ dr main_v8) : valB m d b = valA m d b := Function.update_of_ne h _ _

/-- What the call leaves in its output. -/
theorem valB_out (d : Dev nD) : valB m d (dr main_v8) = outSC (valA m d (dr main_v0)) (valA m d (dr main_v7)) := Function.update_self _ _ _

/-- The bound on the levels of the waits after the call. -/
abbrev lvl : ℕ := 8 * 1

/-- The buffers by the region's names. -/
abbrev byRef (W : (d : Dev nD) → Valuation τ sig (Elt F)) : (c : Dev nD) → (b : Ref sig .tc) → Buf (Elt F) ((c : Thread nD τ).loc b) := fun c b => W c b

/-- The region of this run. -/
abbrev region : Pipeline.RegionSeg (pcfgs (F := F)) adm (pdats (byRef (valB m)) lvl) none defs₀ 𝒱₀ (K (F := F)).L (K (F := F)).lev 0 :=
  reg (byRef (valB m)) lvl (byRef (valC m)) (fun _ => Function.update_self _ _ _)
    (fun _ r h => Function.update_of_ne (fun e => h (Proc.devRef_injective .tc e)) _ _)

/-- What the region takes: the unscoped buffers after the call, and nothing owed. -/
theorem region_pre (d : Dev nD) : (region m).pre d = iprop(held (T d) ucRefs (valB m d) ∗ clean lvl d) := by
  rw [← unscopedBufs_held d (valB m d)]; rfl

/-- What the region leaves. -/
theorem region_post (d : Dev nD) : (region m).post d = iprop(held (T d) ucRefs (valC m d) ∗ clean lvl d) := by
  rw [← unscopedBufs_held d (valC m d)]; rfl

/-- The staging cells' ghost state of a core. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- What @main leaves: every unscoped buffer at its final contents. -/
abbrev FIN (d : Dev nD) : sProp 𝕄 := held (T d) ucRefs (valD m d)

omit [FloatOps F] in
/-- A host operation on the TensorCore's buffers touches unscoped ones only. -/
theorem sub_ucRefs (op : HloOp τ sig (Elt F)) (h : op.bufs ⊆ StableHlo.tcRefs τ sig) : op.bufs ⊆ ucRefs := fun b hb =>
  Finset.mem_filter.mpr ⟨h hb, by rw [op.no_scoped b hb]; exact Bool.false_ne_true⟩

theorem opsA_sub : ∀ op ∈ (opsA : List (HloOp τ sig (Elt F))), op.bufs ⊆ ucRefs := fun op h =>
  sub_ucRefs op (by revert op; simp)

theorem opsB_sub : ∀ op ∈ (opsB : List (HloOp τ sig (Elt F))), op.bufs ⊆ ucRefs := fun op h =>
  sub_ucRefs op (by revert op; simp)

theorem opsA_fresh : ∀ op ∈ (opsA : List (HloOp τ sig (Elt F))), op.fresh = ∅ :=
  List.forall_iff_forall_mem.mp ⟨rfl, rfl, rfl, rfl, rfl, rfl, rfl, rfl⟩

theorem opsB_fresh : ∀ op ∈ (opsB : List (HloOp τ sig (Elt F))), op.fresh = ∅ :=
  List.forall_iff_forall_mem.mp ⟨rfl, rfl⟩

/-! ## @main on the TensorCore -/

/-- @main on device `d`'s TensorCore. -/
theorem hmain (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) ucRefs (valL m d) from unscopedBufs_held d (valL m d), main_parts]
  iintro ⟨#Hctx, Hst, ⟨Hb, Hheld, Hts, -⟩, ⟨Hg, Ht⟩⟩
  iapply (StableHlo.wp_seq (𝒱 := 𝒱) (bd := none) (E := Set.univ) d ucRefs _ opsA opsA_sub opsA_fresh (valL m d)) $$ [Hb Hheld]
  · isplitl [Hb] <;> iassumption
  iintro ⟨Hb, Hheld⟩
  ihave Hh := (Entails.of_eq (StableHlo.held_sub_split (T d) callRefs_sub (after opsA (valL m d)))) $$ Hheld
  icases Hh with ⟨Hcall, Hrest⟩
  ihave Hh := (Entails.of_eq (held_call (F := F) d (after opsA (valL m d)))) $$ Hcall
  icases Hh with ⟨Hx, Hw, Ho⟩
  rw [wp_bind]
  iapply ((K (F := F)).wp_run (D (F := F)) 𝒱 (EH := EH) (P := Pm m) κ d 0) $$ [Hst Hx Hw Ho Hb Hrest Hts Hg Ht]
  isplitr; · iexact Hctx
  isplitl [Hst]; · iexact Hst
  isplitl [Hx Hw Ho]
  · rw [st0_eq]
    isplitl [Hx]; · iexact Hx
    isplitl [Hw]; · iexact Hw
    iexact Ho
  iintro ⟨Hst, Hdn⟩
  ihave Hdn' := (Entails.of_eq (dn0_eq _ _ _ d)) $$ Hdn
  icases Hdn' with ⟨Hx, Hw, Ho⟩
  ihave Hheld : (held (T d) ucRefs (valB m d) : sProp 𝕄) $$ [Hx Hw Ho Hrest]
  · rw [StableHlo.held_sub_split (T d) callRefs_sub (valB m d), held_call, valB_out, valB_ne m d (by decide), valB_ne m d (by decide),
      StableHlo.held_congr (T d) (V := valB m d) (V' := valA m d) fun b hb => valB_ne m d fun e => (Finset.mem_sdiff.mp hb).2 (e ▸ by decide)]
    isplitr [Hrest]
    · isplitl [Hx]; · iexact Hx
      isplitl [Hw]; · iexact Hw
      iexact Ho
    iexact Hrest
  -- the region, on the TensorCore's state with nothing owed
  unfold SparseCore.Cfg.tcSt
  icases Hst with ⟨⟨%W, %hW, HO⟩, Hst⟩
  rw [show (K (F := F)).Otc d ((0 : Fin 1).val + 1) = 0 from (K (F := F)).Otc_end d le_rfl]
  ihave Hlev := ((K (F := F)).ctx_levAts κ) $$ Hctx
  rw [wp_bind]
  iapply ((K (F := F)).wp_liftProg (D (F := F)) 𝒱 (T d) Set.univ none)
  iapply (Pipeline.RegionSeg.wp (pcfgs (F := F)) adm (pdats (byRef (valB m)) lvl) none cellOf_inj EP defs₀ 𝒱₀ (K (F := F)).L (K (F := F)).lev (region m) d none (by simp) _ _)
  isplitr [Hb Hheld HO Hlev Hg Ht]
  · iintro ⟨Hb, Hpost⟩
    ihave Hpost := (Entails.of_eq (region_post m d)) $$ Hpost
    unfold clean
    icases Hpost with ⟨Hheld, %W', %hW', HO⟩
    rw [wp_ret]; imodintro
    iapply (StableHlo.wp_seq (𝒱 := 𝒱) (bd := none) (E := Set.univ) d ucRefs _ opsB opsB_sub opsB_fresh (valC m d)) $$ [Hb Hheld]
    · isplitl [Hb] <;> iassumption
    iintro ⟨Hb, Hheld⟩
    rw [wp_pure]; imodintro
    isplitl [HO Hst]
    · isplitl [HO]
      · iexists W'; isplitr; · ipureintro; exact hW'
        rw [show (K (F := F)).Otc d 1 = 0 from (K (F := F)).Otc_end d le_rfl]
        iexact HO
      iexact Hst
    isplitl [Hheld]; · iexact Hheld
    isplitl [Hb] <;> iassumption
  isplitl [Hb]; · iexact Hb
  isplitl [Hheld HO]
  · rw [region_pre]
    isplitl [Hheld]; · iexact Hheld
    unfold clean; iexists W; isplitr; · ipureintro; exact hW
    iexact HO
  isplitl [Hlev]; · iexact Hlev
  isplitl [Hg]; · iexact Hg
  iexact Ht

/-! ## What the buffers end at -/

/-- The gestures, flat. -/
def flat (d : Dev nD) : S16777216.Idx → BitVec 32 := shapeCast S16777216 (m ((SparseCore.T d).loc main_arg0) : S8192x2048x1.Idx → BitVec 32) shapeCasts_S8192x2048x1_S16777216

/-- A weight repeated over sixteen lanes, as one row. -/
def lanes (v : S1.Idx → F .f32) : S1x16.Idx → F .f32 := broadcastInDim S1x16 ![1] bcast_S16_S1x16_1 (broadcastInDim S16 ![0] bcast_S1_S16_0 v)

/-- The three weights, a row each. -/
def wts (d : Dev nD) : S3x16.Idx → F .f32 :=
  concatenate S3x16 0 [⟨S1x16, lanes (m ((SparseCore.T d).loc main_arg1))⟩, ⟨S1x16, lanes (m ((SparseCore.T d).loc main_arg2))⟩,
    ⟨S1x16, lanes (m ((SparseCore.T d).loc main_arg3))⟩] concatenates_S1x16_S1x16_S1x16_S3x16_d0

/-- The program's result: the SparseCores' half and the TensorCore's, as a column. -/
def result (d : Dev nD) : S8192x1.Idx → F .f32 :=
  shapeCast S8192x1 (concatenate S8192 0 [⟨S4096, outSC (flat m d) (wts m d)⟩, ⟨S4096, outTC (flat m d) (wts m d)⟩] concatenates_S4096_S4096_S8192_d0) shapeCasts_S8192_S8192x1

omit [FloatOps F] in
theorem valA_x (d : Dev nD) : valA m d (dr main_v0) = flat m d := by
  unfold valA; after_results_simp; rfl

omit [FloatOps F] in
theorem valA_w (d : Dev nD) : valA m d (dr main_v7) = wts m d := by
  unfold valA; after_results; rfl

/-- The arguments are as the launch has them. -/
theorem valD_arg (d : Dev nD) (r : Ref sig .tc) (h : r ∉ [main_v0, main_v1, main_v2, main_v3, main_v4, main_v5, main_v6, main_v7, main_v8, main_v9, main_v10, main_v11]) :
    valD m d (dr r) = m ((SparseCore.T d).loc r) := by
  have hB : r ∉ [main_v10, main_v11] := fun e => h (List.mem_append_right [main_v0, main_v1, main_v2, main_v3, main_v4, main_v5, main_v6, main_v7, main_v8, main_v9] e)
  have hA : r ∉ [main_v0, main_v1, main_v2, main_v3, main_v4, main_v5, main_v6, main_v7] := fun e => h (List.mem_append_left [main_v8, main_v9, main_v10, main_v11] e)
  have h8 : r ≠ main_v8 := by rintro rfl; exact h (by decide)
  have h9 : r ≠ main_v9 := by rintro rfl; exact h (by decide)
  unfold valD
  rw [StableHlo.after_of_writes_sub opsB _ (StableHlo.forall_writes_sub_of_map rfl) hB, valC,
    Function.update_of_ne fun e => h9 (Proc.devRef_injective .tc e), valB_ne m d fun e => h8 (Proc.devRef_injective .tc e), valA,
    StableHlo.after_of_writes_sub opsA _ (StableHlo.forall_writes_sub_of_map rfl) hA]
  rfl

/-- The result buffer is at the program's result. -/
theorem valD_out (d : Dev nD) : valD m d (dr main_v11) = result m d := by
  have h8 : valC m d (dr main_v8) = outSC (flat m d) (wts m d) := by
    rw [valC, Function.update_of_ne (by decide), valB_out, valA_x, valA_w]
  have h9 : valC m d (dr main_v9) = outTC (flat m d) (wts m d) := by
    rw [valC, Function.update_self, valB_ne m d (by decide), valB_ne m d (by decide), valA_x, valA_w]
  unfold valD; after_results_simp
  rw [h8, h9]; rfl

/-! ## The launch -/

/-- The ghost state the run starts from: the handshakes' rounds and the staging cells'. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
/-- A big conjunction of nothing is nothing. -/
theorem bigSep_nothing {I : Type} (s : Finset I) : (bigSep s fun _ => iprop(emp)) = (iprop(emp) : sProp 𝕄) := bigSep_emp_const s

/-- The ghost state is the handshakes' and, on every core, the staging cells'. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  unfold u₀
  iintro Hu
  ihave H := (ownU_pair _ _) $$ Hu
  icases H with ⟨HH, HR⟩
  ihave H := (own_pair_emb embR _ _) $$ HR
  icases H with ⟨HP, -⟩
  ihave H := (show (BI.own (((Emb.inl : Emb UP (UP × Counters)).trans embR) (initOf (Pipeline.cells (Pipeline.pin (pcfgs (F := F)) adm) cellOf_inj) (Pipeline.launchToks (Pipeline.pin (pcfgs (F := F)) adm) cellOf_inj))) : sProp 𝕄) ⊢ _
    from Pipeline.fund_ghost (Pipeline.pin (pcfgs (F := F)) adm) EP cellOf_inj) $$ HP
  imod H with ⟨Hc, Ht⟩
  imodintro
  isplitl [HH]; · iexact HH
  isplitl [Hc Ht]
  · rw [show (bigSep Finset.univ fun d : Dev nD => G (F := F) d) = iprop((bigSep Finset.univ fun d : Dev nD => Pipeline.cellsGhost (Pipeline.pin (pcfgs (F := F)) adm) EP 0 d)
        ∗ bigSep Finset.univ fun d : Dev nD => (Pipeline.toksInit (Pipeline.pin (pcfgs (F := F)) adm) EP 0 d : sProp 𝕄)) from bigSep_sep' _ _ _]
    simp only [show (Finset.univ : Finset (Fin 1)) = {0} from rfl, bigSep_singleton]
    isplitl [Hc] <;> iassumption
  rw [show (bigSep Finset.univ fun thr : Thread nD τ => bigSep Finset.univ fun q : Fin 1 => (Pm m).x q thr) = iprop(emp) from
    (bigSep_congr fun _ _ => bigSep_nothing _).trans (bigSep_nothing _)]
  iempintro

/-- Device `d`'s unscoped buffers are at their final contents. -/
def fq (d : Dev nD) (s' : Phys nD τ sig (Elt F)) : Prop := ∀ b ∈ ucRefs, s'.mem.mem (d, b) = valD m d b

/-- What @main leaves fixes the final memory. -/
theorem hfin (d : Dev nD) (s' : Phys nD τ sig (Elt F)) : iprop(FIN m d ∗ SI s') ⊢ (⌜fq m d s'⌝ : sProp 𝕄) := by
  refine (Laws.forall_intro fun b => ?_).trans Laws.pure_forall.2
  refine (Laws.forall_intro fun hb => ?_).trans Laws.pure_forall.2
  unfold FIN
  rw [StableHlo.held_sub_split (T d) (Finset.singleton_subset_iff.mpr hb) (valD m d)]
  unfold held
  rw [bigSep_singleton]
  iintro ⟨⟨Hx, -⟩, HSI⟩
  ihave H := (SI_pointsTo_agree (st := s') (ℓ := (d, b)) (I := Finset.univ) (q := fullShare) (f := valD m d b)) $$ [HSI Hx]
  · isplitl [HSI] <;> iassumption
  icases H with %hx
  ipureintro; exact funext fun i => hx i (Finset.mem_univ i)

/-! ## The program's run -/

/-- The end of a run: the result, the arguments unchanged, every counter at zero. -/
def QC : PUnit × MemSt nD τ sig (Elt F) → Prop := fun r =>
  (∀ c : Dev nD, r.2.mem ((c : Thread nD τ).loc main_v11) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0

/-- Every weakly fair execution of the program ends as `QC` says. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ _)
    (fun q _ => match q with | 0 => SparseCore.Cfg.VecSplit.of_plain (vecSplit _ _ _))
    m ρ main (fun d => G d) (FIN m) (u₀ (F := F)) (sep_elim_left.trans (hu₀ m)) (hmain m ρ) (fq m) (hfin m) (QC m)
    (fun _ h hz => ⟨fun c => ⟨(h c (dr main_v11) (by decide)).trans (valD_out m c),
      (h c (dr main_arg0) (by decide)).trans (valD_arg m c main_arg0 (by decide)), (h c (dr main_arg1) (by decide)).trans (valD_arg m c main_arg1 (by decide)),
      (h c (dr main_arg2) (by decide)).trans (valD_arg m c main_arg2 (by decide)), (h c (dr main_arg3) (by decide)).trans (valD_arg m c main_arg3 (by decide))⟩, hz⟩)

end Cert.Proof

end
-- ==== Proof.Counts.lean ====
/-
  The arithmetic of one row. Its 2048 words are each 0, 1 or 2, so the sum of the words and the sum of the words shifted
  right by one determine how often each value occurs; and the kernel's chain of float operations on the two sums is the
  reference's on the three shares.
-/
module

public import proofs.«01_k».proof.Proof.Value
public import Idealize.ShloMosaic.Lib.WordSum
public import Idealize.ShloMosaic.Lib.IdealHost
public import Idealize.ShloMosaic.PureOps.Ideal.Laws

@[expose] public section

noncomputable section

namespace Cert.Proof

open Idealize.ShloMosaic

/-! ## How often each value occurs -/

/-- A word that is 0, 1 or 2. -/
def Gesture (v : BitVec 32) : Prop := v = 0#32 ∨ v = 1#32 ∨ v = 2#32

/-- Whether a word is the number `k`, as 0 or 1. -/
def hit (k : ℕ) (v : BitVec 32) : ℕ := if v = BitVec.ofNat 32 k then 1 else 0

/-- How many of the 2048 words are the number `k`. -/
def tally (x : ℕ → BitVec 32) (k : ℕ) : ℕ := ∑ j ∈ Finset.range 2048, hit k (x j)

/-- A word that is 0, 1 or 2 is exactly one of them. -/
theorem hit_total {v : BitVec 32} (h : Gesture v) : hit 0 v + hit 1 v + hit 2 v = 1 := by
  rcases h with rfl | rfl | rfl <;> decide

/-- Its value from which it is. -/
theorem toNat_eq_hits {v : BitVec 32} (h : Gesture v) : v.toNat = hit 1 v + 2 * hit 2 v := by
  rcases h with rfl | rfl | rfl <;> decide

/-- Shifted, it is 1 exactly when it was 2. -/
theorem half_eq_hit {v : BitVec 32} (h : Gesture v) : (half v).toNat = hit 2 v := by
  rcases h with rfl | rfl | rfl <;> decide

section
variable (x : ℕ → BitVec 32) (hx : ∀ j < 2048, Gesture (x j))
include hx

/-- The three counts make up the row. -/
theorem tally_total : tally x 0 + tally x 1 + tally x 2 = 2048 := by
  unfold tally
  rw [← Finset.sum_add_distrib, ← Finset.sum_add_distrib, Finset.sum_congr rfl fun j hj => hit_total (hx j (Finset.mem_range.mp hj))]
  simp

/-- The sum of the words: the count of the ones and twice the count of the twos. It does not wrap. -/
theorem sum_toInt : (∑ j ∈ Finset.range 2048, x j).toInt = (tally x 1 : ℤ) + 2 * (tally x 2 : ℤ) := by
  have e : ∑ j ∈ Finset.range 2048, (x j).toNat = tally x 1 + 2 * tally x 2 := by
    unfold tally
    rw [Finset.mul_sum, ← Finset.sum_add_distrib]
    exact Finset.sum_congr rfl fun j hj => toNat_eq_hits (hx j (Finset.mem_range.mp hj))
  have ht := tally_total x hx
  have h := WordSum.toNat_sum (Finset.range 2048) x (by rw [e]; omega)
  rw [e] at h
  rw [BitVec.toInt_eq_toNat_of_lt (by rw [h]; omega), h]
  push_cast; rfl

/-- The sum of the shifted words: the count of the twos. -/
theorem halves_toInt : (∑ j ∈ Finset.range 2048, half (x j)).toInt = (tally x 2 : ℤ) := by
  have e : ∑ j ∈ Finset.range 2048, (half (x j)).toNat = tally x 2 :=
    Finset.sum_congr rfl fun j hj => half_eq_hit (hx j (Finset.mem_range.mp hj))
  have ht := tally_total x hx
  have h := WordSum.toNat_sum (Finset.range 2048) (fun j => half (x j)) (by rw [e]; omega)
  rw [e] at h
  rw [BitVec.toInt_eq_toNat_of_lt (by rw [h]; omega), h]

end

/-! ## The score -/

/-- A count as its share of the row's 2048 words. -/
def share (n : ℕ) : EReal := (((n : ℝ) / 2048 : ℝ) : EReal)

/-- The score, gate and logistic on the three shares, as the reference has them. -/
def squash (w0 w1 w2 f0 f1 f2 : EReal) : EReal :=
  Ideal.div 1 (1 + Ideal.exp (-((f0 * w0 + f1 * w1 + f2 * w2) * (1 + Ideal.div 1 (1 + Ideal.exp (-(f0 * 2)))))))

/-- The word of the float 2048 -/
theorem ofBits_2048 : Ideal.ofBits .f32 0x45000000#32 = ((2048 : ℝ) : EReal) := by
  simp only [Ideal.ofBits, Ideal.ieee]
  simp
  rw [← EReal.coe_mul]; norm_num

/-- of 2 -/
theorem ofBits_two : Ideal.ofBits .f32 0x40000000#32 = ((2 : ℝ) : EReal) := by
  simp only [Ideal.ofBits, Ideal.ieee]
  simp
  rw [← EReal.coe_mul]; norm_num

/-- and of 1/2048. -/
theorem ofBits_inv : Ideal.ofBits .f32 0x3A000000#32 = ((1 / 2048 : ℝ) : EReal) := by
  simp only [Ideal.ofBits, Ideal.ieee]
  simp
  rw [← EReal.coe_mul]; norm_num

/-- The kernel's chain on a row's two sums is the reference's on the three shares. -/
theorem logistic_eq (w0 w1 w2 : EReal) {s c : BitVec 32} {n0 n1 n2 : ℕ} (hs : s.toInt = (n1 : ℤ) + 2 * (n2 : ℤ))
    (hc : c.toInt = (n2 : ℤ)) (hn : n0 + n1 + n2 = 2048) :
    logistic (F := Ideal) w0 w1 w2 s c = squash w0 w1 w2 (share n0) (share n1) (share n2) := by
  have hr : (n0 : ℝ) + n1 + n2 = 2048 := by exact_mod_cast hn
  have h0 : ((((2048 : ℝ) : EReal) - ((s.toInt : ℝ) : EReal)) + ((c.toInt : ℝ) : EReal)) * ((1 / 2048 : ℝ) : EReal) = share n0 := by
    rw [hs, hc]; unfold share
    rw [← EReal.coe_sub, ← EReal.coe_add, ← EReal.coe_mul]
    congr 1; push_cast; linarith
  have h1 : ((((s.toInt : ℝ) : EReal) - ((c.toInt : ℝ) : EReal)) - ((c.toInt : ℝ) : EReal)) * ((1 / 2048 : ℝ) : EReal) = share n1 := by
    rw [hs, hc]; unfold share
    rw [← EReal.coe_sub, ← EReal.coe_sub, ← EReal.coe_mul]
    congr 1; push_cast; ring
  have h2 : ((c.toInt : ℝ) : EReal) * ((1 / 2048 : ℝ) : EReal) = share n2 := by
    rw [hc]; unfold share
    rw [← EReal.coe_mul]
    congr 1; push_cast; ring
  have hg : share n0 + share n0 = share n0 * 2 := by
    rw [show (2 : EReal) = ((2 : ℝ) : EReal) from rfl]; unfold share
    rw [← EReal.coe_add, ← EReal.coe_mul]
    congr 1; ring
  have hneg : ∀ y : EReal, 0 - y = -y := fun y => by rw [sub_eq_add_neg, zero_add]
  show Ideal.div (Ideal.ofBits .f32 0x3F800000#32) (Ideal.ofBits .f32 0x3F800000#32 + Ideal.exp (Ideal.ofBits .f32 0x00000000#32 -
    (((Ideal.ofBits .f32 0x45000000#32 - ((s.toInt : ℝ) : EReal)) + ((c.toInt : ℝ) : EReal)) * Ideal.ofBits .f32 0x3A000000#32 * w0
      + ((((s.toInt : ℝ) : EReal) - ((c.toInt : ℝ) : EReal)) - ((c.toInt : ℝ) : EReal)) * Ideal.ofBits .f32 0x3A000000#32 * w1
      + ((c.toInt : ℝ) : EReal) * Ideal.ofBits .f32 0x3A000000#32 * w2)
      * (Ideal.ofBits .f32 0x3F800000#32 + Ideal.div (Ideal.ofBits .f32 0x3F800000#32) (Ideal.ofBits .f32 0x3F800000#32
        + Ideal.exp (Ideal.ofBits .f32 0x00000000#32 -
          (((Ideal.ofBits .f32 0x45000000#32 - ((s.toInt : ℝ) : EReal)) + ((c.toInt : ℝ) : EReal)) * Ideal.ofBits .f32 0x3A000000#32
            + ((Ideal.ofBits .f32 0x45000000#32 - ((s.toInt : ℝ) : EReal)) + ((c.toInt : ℝ) : EReal)) * Ideal.ofBits .f32 0x3A000000#32)))))) = _
  rw [ofBits_2048, ofBits_inv, Ideal.ofBits_one_f32, Ideal.ofBits_zero_f32, h0, h1, h2, hg, hneg, hneg]
  rfl

/-! ## The reference's shares -/

/-- A sum of reals is their sum as extended reals. -/
theorem coe_sum {ι : Type} (S : Finset ι) (f : ι → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

/-- A count summed as floats, from the words' comparisons. -/
theorem sum_hits (x : ℕ → BitVec 32) (k : ℕ) :
    ∑ j : Fin 2048, (((IntOp.cmpi .eq (x j.val) (BitVec.ofNat 32 k)).toNat : ℝ) : EReal) = ((tally x k : ℝ) : EReal) := by
  rw [tally, ← Fin.sum_univ_eq_sum_range (fun j => hit k (x j))]
  push_cast
  rw [coe_sum]
  refine Finset.sum_congr rfl fun j _ => ?_
  congr 1
  unfold hit
  by_cases h : x j.val = BitVec.ofNat 32 k
  · rw [if_pos h, h]; simp [IntOp.cmpi]
  · rw [if_neg h]
    have : (x j.val == BitVec.ofNat 32 k) = false := by rw [beq_eq_false_iff_ne]; exact h
    simp [IntOp.cmpi, this]

/-- A count divided by the larger of the row's length and one is its share. -/
theorem share_eq {n0 n1 n2 : ℕ} (n : ℕ) (hn : n0 + n1 + n2 = 2048) :
    Ideal.div ((n : ℝ) : EReal) (max (((n0 : ℝ) : EReal) + ((n1 : ℝ) : EReal) + ((n2 : ℝ) : EReal)) 1) = share n := by
  have hr : (n0 : ℝ) + n1 + n2 = 2048 := by exact_mod_cast hn
  rw [← EReal.coe_add, ← EReal.coe_add, hr, max_eq_left (by exact_mod_cast (by norm_num : (1 : ℝ) ≤ 2048)),
    Ideal.div_coe (by norm_num), ← EReal.coe_mul]
  unfold share
  congr 1; ring

end Cert.Proof

end
-- ==== Proof.Reference.lean ====
/-
  The reference's result read at a row: the three counts of the row's words, their shares, and the score on them.
-/
module

public import proofs.«01_k».proof.Proof.Counts
public import proofs.«01_k».proof.Proof.Gen.ReferenceIdeal
public import proofs.«01_k».proof.Proof.Gen.ReferenceIdeal.Run
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.Pipeline.Value

@[expose] public section

noncomputable section

namespace Cert.Proof

open Cert.ReferenceIdeal Cert.ReferenceIdeal.Gen
open Idealize.ShloMosaic Idealize.ShloMosaic.ValueIdx

/-- Word `j` of row `R` of the gestures, zero past the row's end. -/
def rowWord (x : S8192x2048x1.Idx → BitVec 32) (R : Fin 8192) (j : ℕ) : BitVec 32 :=
  if h : j < 2048 then x (ix3 R ⟨j, h⟩ 0) else 0#32

section
variable (x : S8192x2048x1.Idx → BitVec 32)

/-- The reference's one-hot words: at (R, j, k), whether word `j` of row `R` is `k`. -/
abbrev oneHot : FVec Ideal S8192x2048x3 .f32 :=
  uitofp .f32 (cmpi .eq
    (broadcastInDim S8192x2048x3 ![0, 1, 2] bcast_S8192x2048x1_S8192x2048x3_0_1_2
      (broadcastInDim S8192x2048x1 ![0, 1] bcast_S8192x2048_S8192x2048x1_0_1 (shapeCast S8192x2048 x shapeCasts_S8192x2048x1_S8192x2048)))
    (broadcastInDim S8192x2048x3 ![0, 1, 2] bcast_S1x1x3_S8192x2048x3_0_1_2 (iotaInDim S1x1x3 32 2)))

/-- Its counts, by row and value, -/
abbrev counts : FVec Ideal S8192x1x3 .f32 :=
  broadcastInDim S8192x1x3 ![0, 2] bcast_S8192x3_S8192x1x3_0_2
    (Host.reduceAdd (oneHot x) (constant S_ .f32 0x00000000#32) reducesTo_S8192x2048x3_S8192x3_d1 h_S_)

/-- and its shares. -/
abbrev shares : FVec Ideal S8192x1x3 .f32 :=
  Host.divf (counts x) (broadcastInDim S8192x1x3 ![0, 1, 2] bcast_S8192x1x1_S8192x1x3_0_1_2
    (maximumf (broadcastInDim S8192x1x1 ![0, 1] bcast_S8192x1_S8192x1x1_0_1
        (Host.reduceAdd (counts x) (constant S_ .f32 0x00000000#32) reducesTo_S8192x1x3_S8192x1_d2 h_S_))
      (broadcastInDim S8192x1x1 ![] bcast_S_S8192x1x1 (constant S_ .f32 0x3F800000#32))))

/-- A one-hot word. -/
theorem oneHot_apply (R : Fin 8192) (j : Fin 2048) (k : Fin 3) :
    oneHot x (ix3 R j k) = (((IntOp.cmpi .eq (rowWord x R j.val) (BitVec.ofNat 32 k.val)).toNat : ℝ) : EReal) := by
  have e : (broadcastInDim S8192x2048x3 ![0, 1, 2] bcast_S8192x2048x1_S8192x2048x3_0_1_2
      (broadcastInDim S8192x2048x1 ![0, 1] bcast_S8192x2048_S8192x2048x1_0_1 (shapeCast S8192x2048 x shapeCasts_S8192x2048x1_S8192x2048))) (ix3 R j k)
      = rowWord x R j.val := by
    rw [broadcastInDim_apply _ _ _ _ (ix3 R j 0) (fun a => by match a with | ⟨0, _⟩ => rfl | ⟨1, _⟩ => rfl | ⟨2, _⟩ => rfl),
      broadcastInDim_apply _ _ _ _ (ix2 R j) (fun a => by match a with | ⟨0, _⟩ => rfl | ⟨1, _⟩ => rfl),
      shapeCast_apply _ _ _ (ix3 R j 0) (by
        rw [Shape.rowMajor_val_three, Shape.rowMajor_val_two]
        simp [ix3, ix2])]
    unfold rowWord
    rw [dif_pos j.isLt]
  have e2 : (broadcastInDim S8192x2048x3 ![0, 1, 2] bcast_S1x1x3_S8192x2048x3_0_1_2 (iotaInDim S1x1x3 32 2)) (ix3 R j k) = BitVec.ofNat 32 k.val := by
    rw [broadcastInDim_apply _ _ _ _ (ix3 0 0 k) (fun a => by match a with | ⟨0, _⟩ => rfl | ⟨1, _⟩ => rfl | ⟨2, _⟩ => rfl)]
    rfl
  show (((IntOp.cmpi .eq _ _).toNat : ℝ) : EReal) = _
  rw [e, e2]

/-- A count is the tally. -/
theorem counts_apply (R : Fin 8192) (k : Fin 3) : counts x (ix3 R 0 k) = ((tally (rowWord x R) k.val : ℝ) : EReal) := by
  have hred : S8192x2048x3.Reduces [1] S8192x3 := by decide
  rw [counts, broadcastInDim_apply _ _ _ _ (ix2 R k) (fun a => by match a with | ⟨0, _⟩ => rfl | ⟨1, _⟩ => rfl),
    ValueIdx.hostReduceAdd_apply, Ideal.hostReduceAdd_single _ hred, ← sum_hits]
  show Ideal.ofBits .f32 0x00000000#32 + _ = _
  rw [Ideal.ofBits_zero_f32, zero_add]
  refine Finset.sum_congr rfl fun j _ => ?_
  refine Eq.trans ?_ (oneHot_apply x R j k)
  refine congrArg (oneHot x) (funext fun a => Fin.ext ?_)
  match a with
  | ⟨0, _⟩ => rfl
  | ⟨1, _⟩ => rfl
  | ⟨2, _⟩ => rfl

variable (hx : ∀ i, Gesture (x i))
include hx

/-- Every word of a row is a gesture. -/
theorem rowWord_gesture (R : Fin 8192) : ∀ j < 2048, Gesture (rowWord x R j) := fun j hj => by
  unfold rowWord; rw [dif_pos hj]; exact hx _

/-- A share is the tally's. -/
theorem shares_apply (R : Fin 8192) (k : Fin 3) : shares x (ix3 R 0 k) = share (tally (rowWord x R) k.val) := by
  have hred : S8192x1x3.Reduces [2] S8192x1 := by decide
  have ht := tally_total (rowWord x R) (rowWord_gesture x hx R)
  rw [← share_eq _ ht]
  have e : (broadcastInDim S8192x1x3 ![0, 1, 2] bcast_S8192x1x1_S8192x1x3_0_1_2
    (maximumf (broadcastInDim S8192x1x1 ![0, 1] bcast_S8192x1_S8192x1x1_0_1
        (Host.reduceAdd (counts x) (constant S_ .f32 0x00000000#32) reducesTo_S8192x1x3_S8192x1_d2 h_S_))
      (broadcastInDim S8192x1x1 ![] bcast_S_S8192x1x1 (constant S_ .f32 0x3F800000#32)))) (ix3 R 0 k)
      = max (((tally (rowWord x R) 0 : ℝ) : EReal) + ((tally (rowWord x R) 1 : ℝ) : EReal) + ((tally (rowWord x R) 2 : ℝ) : EReal)) 1 := by
    rw [broadcastInDim_apply _ _ _ _ (ix3 R 0 0) (fun a => by match a with | ⟨0, _⟩ => rfl | ⟨1, _⟩ => rfl | ⟨2, _⟩ => rfl),
      ValueIdx.maximumf_apply, ValueIdx.broadcastInDim_scalar_apply,
      broadcastInDim_apply _ _ _ _ (ix2 R 0) (fun a => by match a with | ⟨0, _⟩ => rfl | ⟨1, _⟩ => rfl),
      ValueIdx.hostReduceAdd_apply, Ideal.hostReduceAdd_single _ hred]
    show max (Ideal.ofBits .f32 0x00000000#32 + _) (Ideal.ofBits .f32 0x3F800000#32) = _
    rw [Ideal.ofBits_zero_f32, zero_add, Ideal.ofBits_one_f32]
    refine congrArg (max · 1) ?_
    have hl : ∀ q : Fin 3, hred.lift (ix2 R 0) q = ix3 R 0 q := fun q => funext fun a => Fin.ext (by
      match a with | ⟨0, _⟩ => rfl | ⟨1, _⟩ => rfl | ⟨2, _⟩ => rfl)
    show ∑ q : Fin 3, counts x (hred.lift (ix2 R 0) q) = _
    rw [Fin.sum_univ_three, hl, hl, hl, counts_apply, counts_apply, counts_apply]
    rfl
  rw [shares, ValueIdx.hostDivf_apply, e, counts_apply]

omit hx in
/-- One weight, repeated over the rows, is its one entry. -/
theorem weight_apply (w : S1.Idx → EReal) (R : Fin 8192) :
    broadcastInDim S8192x1 ![0, 1] bcast_S1x1_S8192x1_0_1 (broadcastInDim S1x1 ![1] bcast_S1_S1x1_1 w) (ix2 R 0) = w (ix1 0) := by
  rw [broadcastInDim_apply _ _ _ _ (ix2 0 0) (fun a => by match a with | ⟨0, _⟩ => rfl | ⟨1, _⟩ => rfl),
    broadcastInDim_apply _ _ _ _ (ix1 0) (fun a => by match a with | ⟨0, _⟩ => rfl)]

/-- One value's shares, cut out and laid along the rows. -/
theorem column_apply (k : Fin 3) (h : S8192x1x3.Slices ![0, 0, k.val] S8192x1x1) (R : Fin 8192) :
    shapeCast S8192x1 (extractStridedSlice S8192x1x1 ![0, 0, k.val] (shares x) h) shapeCasts_S8192x1x1_S8192x1 (ix2 R 0)
      = share (tally (rowWord x R) k.val) := by
  rw [shapeCast_apply _ _ _ (ix3 R 0 0) (by
      rw [Shape.rowMajor_val_three, Shape.rowMajor_val_two]
      simp [ix3, ix2]),
    extractStridedSlice_apply _ _ _ _ (ix3 R 0 k) (fun a => by match a with | ⟨0, _⟩ => exact (Nat.zero_add _).symm | ⟨1, _⟩ => rfl | ⟨2, _⟩ => rfl),
    shares_apply x hx]

end

/-- The reference's score, gate, logistic and clip, on three columns of shares and three of weights. -/
abbrev tail (W0 W1 W2 C0 C1 C2 : FVec Ideal S8192x1 .f32) : FVec Ideal S8192x1 .f32 :=
  minimumf (broadcastInDim S8192x1 ![] bcast_S_S8192x1 (id (constant S_ .f32 0x3F7FFFFE#32)))
    (maximumf (broadcastInDim S8192x1 ![] bcast_S_S8192x1 (id (constant S_ .f32 0x33D6BF95#32)))
      (Host.divf (broadcastInDim S8192x1 ![] bcast_S_S8192x1 (constant S_ .f32 0x3F800000#32))
        (addf (broadcastInDim S8192x1 ![] bcast_S_S8192x1 (constant S_ .f32 0x3F800000#32))
          (Host.exp (Host.negf (mulf (addf (addf (mulf C0 W0) (mulf C1 W1)) (mulf C2 W2))
            (addf (broadcastInDim S8192x1 ![] bcast_S_S8192x1 (constant S_ .f32 0x3F800000#32))
              (Host.divf (broadcastInDim S8192x1 ![] bcast_S_S8192x1 (constant S_ .f32 0x3F800000#32))
                (addf (broadcastInDim S8192x1 ![] bcast_S_S8192x1 (constant S_ .f32 0x3F800000#32))
                  (Host.exp (Host.negf (mulf C0 (broadcastInDim S8192x1 ![] bcast_S_S8192x1 (constant S_ .f32 0x40000000#32))))))))))))))

/-- It read at a row. -/
theorem tail_apply (W0 W1 W2 C0 C1 C2 : FVec Ideal S8192x1 .f32) (i : S8192x1.Idx) :
    tail W0 W1 W2 C0 C1 C2 i = min (Ideal.ofBits .f32 0x3F7FFFFE#32) (max (Ideal.ofBits .f32 0x33D6BF95#32)
      (squash (W0 i) (W1 i) (W2 i) (C0 i) (C1 i) (C2 i))) := by
  unfold squash
  rw [← Ideal.ofBits_one_f32, show (2 : EReal) = Ideal.ofBits .f32 0x40000000#32 from ofBits_two.symm]
  rfl

set_option maxRecDepth 8192 in
/-- The reference's result of row `R`. -/
theorem reference_apply (m : (ℓ : Loc nD τ sig) → Buf (Elt Ideal) ℓ) (d : Dev nD)
    (hx : ∀ i, Gesture (m ((d.tc : Thread nD τ).loc main_arg0) i)) (R : Fin 8192) :
    Value.res_main_v44 m d (ix2 R 0) = min (Ideal.ofBits .f32 0x3F7FFFFE#32) (max (Ideal.ofBits .f32 0x33D6BF95#32)
      (squash (m ((d.tc : Thread nD τ).loc main_arg1) (ix1 0)) (m ((d.tc : Thread nD τ).loc main_arg2) (ix1 0)) (m ((d.tc : Thread nD τ).loc main_arg3) (ix1 0))
        (share (tally (rowWord (m ((d.tc : Thread nD τ).loc main_arg0)) R) 0)) (share (tally (rowWord (m ((d.tc : Thread nD τ).loc main_arg0)) R) 1))
        (share (tally (rowWord (m ((d.tc : Thread nD τ).loc main_arg0)) R) 2)))) := by
  have e : Value.res_main_v44 m d = tail
      (broadcastInDim S8192x1 ![0, 1] bcast_S1x1_S8192x1_0_1 (broadcastInDim S1x1 ![1] bcast_S1_S1x1_1 (m ((d.tc : Thread nD τ).loc main_arg1))))
      (broadcastInDim S8192x1 ![0, 1] bcast_S1x1_S8192x1_0_1 (broadcastInDim S1x1 ![1] bcast_S1_S1x1_1 (m ((d.tc : Thread nD τ).loc main_arg2))))
      (broadcastInDim S8192x1 ![0, 1] bcast_S1x1_S8192x1_0_1 (broadcastInDim S1x1 ![1] bcast_S1_S1x1_1 (m ((d.tc : Thread nD τ).loc main_arg3))))
      (shapeCast S8192x1 (extractStridedSlice S8192x1x1 ![0, 0, 0] (shares (m ((d.tc : Thread nD τ).loc main_arg0))) slices_S8192x1x3_S8192x1x1_0_0_0)
        shapeCasts_S8192x1x1_S8192x1)
      (shapeCast S8192x1 (extractStridedSlice S8192x1x1 ![0, 0, 1] (shares (m ((d.tc : Thread nD τ).loc main_arg0))) slices_S8192x1x3_S8192x1x1_0_0_1)
        shapeCasts_S8192x1x1_S8192x1)
      (shapeCast S8192x1 (extractStridedSlice S8192x1x1 ![0, 0, 2] (shares (m ((d.tc : Thread nD τ).loc main_arg0))) slices_S8192x1x3_S8192x1x1_0_0_2)
        shapeCasts_S8192x1x1_S8192x1) := rfl
  rw [e, tail_apply, weight_apply, weight_apply, weight_apply]
  have c0 := column_apply _ hx 0 slices_S8192x1x3_S8192x1x1_0_0_0 R
  have c1 := column_apply _ hx 1 slices_S8192x1x3_S8192x1x1_0_0_1 R
  have c2 := column_apply _ hx 2 slices_S8192x1x3_S8192x1x1_0_0_2 R
  exact congrArg _ (congrArg _ (congr (congr (congrArg _ c0) c1) c2))

end Cert.Proof

end
-- ==== Proof.Scores.lean ====
/-
  The kernel's result read at a row, and the two programs' results equal: when every word is 0, 1 or 2, both are the
  reference's score on the shares of the row's three counts.
-/
module

public import proofs.«01_k».proof.Defs
public import proofs.«01_k».proof.Proof.Gen.Pre_gestures
public import proofs.«01_k».proof.Proof.Main
public import proofs.«01_k».proof.Proof.Reference
public import Idealize.ShloMosaic.Lib.ReduceAll

@[expose] public section

noncomputable section

namespace Cert.Proof

open Cert.KernelIdeal Cert.KernelIdeal.Gen
open Idealize.ShloMosaic Idealize.ShloMosaic.ValueIdx

/-! ## The precondition -/

/-- A word from 0 up to 3 is a gesture. -/
theorem gesture_of_range (v : BitVec 32) (h0 : 0 ≤ v.toInt) (h3 : v.toInt < 3) : Gesture v := by
  have h : v.toInt = 0 ∨ v.toInt = 1 ∨ v.toInt = 2 := by omega
  rcases h with h | h | h
  · exact Or.inl (BitVec.eq_of_toInt_eq (h.trans (by decide)))
  · exact Or.inr (Or.inl (BitVec.eq_of_toInt_eq (h.trans (by decide))))
  · exact Or.inr (Or.inr (BitVec.eq_of_toInt_eq (h.trans (by decide))))

/-- The precondition says that every word is a gesture. -/
theorem gesture_of_pre (x : Cert.Pre_gestures.S8192x2048x1.Idx → BitVec 32) (w0 w1 w2 : FVec Ideal Cert.Pre_gestures.S1 .f32)
    (h : Cert.Pre_gestures.fn (F := Ideal) x w0 w1 w2 = fun _ => 1#1) (i : Cert.Pre_gestures.S8192x2048x1.Idx) : Gesture (x i) := by
  haveI : Subsingleton Cert.Pre_gestures.S_.Idx := ⟨fun a b => funext fun k => k.elim0⟩
  have e := Host.reduce_andi_all _ _ _ _ ix0 (congrFun h ix0) i
  obtain ⟨h0, h3⟩ := IntOp.andi_eq_one.1 e
  have h0 := IntOp.cmpi_sge.1 h0
  have h3 := IntOp.cmpi_slt.1 h3
  exact gesture_of_range _ h0 h3

/-! ## The kernel's result -/

variable (m : (ℓ : Loc nD τ sig) → Buf (Elt Ideal) ℓ) (d : Dev nD)

/-- Word `2048 R + j` of the flattened gestures is word `j` of row `R`. -/
theorem flat_apply (R : Fin 8192) (j : ℕ) (hj : j < 2048) :
    wordAt (flat m d) (2048 * R.val + j) = rowWord (m ((SparseCore.T d).loc main_arg0)) R j := by
  have hb : 2048 * R.val + j < 16777216 := by have := R.isLt; omega
  unfold wordAt rowWord
  rw [dif_pos hb, dif_pos hj]
  unfold flat
  exact shapeCast_apply _ _ _ (ix3 R ⟨j, hj⟩ 0) (by
    rw [Shape.rowMajor_val_three, Shape.rowMajor_val_one]
    simp [ix3, Shape.ofLane]; omega)

/-- So a row's sum is the sum of its words, -/
theorem rowSum_flat (R : Fin 8192) : rowSum (flat m d) R.val = ∑ j ∈ Finset.range 2048, rowWord (m ((SparseCore.T d).loc main_arg0)) R j :=
  Finset.sum_congr rfl fun j hj => flat_apply m d R j (Finset.mem_range.mp hj)

/-- and of its shifted words. -/
theorem rowHalves_flat (R : Fin 8192) :
    rowHalves (flat m d) R.val = ∑ j ∈ Finset.range 2048, half (rowWord (m ((SparseCore.T d).loc main_arg0)) R j) :=
  Finset.sum_congr rfl fun j hj => congrArg half (flat_apply m d R j (Finset.mem_range.mp hj))

/-- A repeated weight is its one entry at every lane. -/
theorem lanes_apply (v : S1.Idx → EReal) (l : Fin 16) : lanes (F := Ideal) v (ix2 0 l) = v (ix1 0) := by
  unfold lanes
  rw [broadcastInDim_apply _ _ _ _ (ix1 l) (fun a => by match a with | ⟨0, _⟩ => rfl),
    broadcastInDim_apply _ _ _ _ (ix1 0) (fun a => by match a with | ⟨0, _⟩ => rfl)]

/-- The three rows of weights. -/
abbrev rows (a b c : S1.Idx → EReal) : List ((s : Shape) × (s.Idx → EReal)) :=
  [⟨S1x16, lanes (F := Ideal) a⟩, ⟨S1x16, lanes (F := Ideal) b⟩, ⟨S1x16, lanes (F := Ideal) c⟩]

/-- Row `k` of the stacked weights is weight `k` at every lane. -/
theorem rows_apply (a b c v : S1.Idx → EReal) (k : Fin 3) (hv : (rows a b c)[k.val]'k.isLt = ⟨S1x16, lanes (F := Ideal) v⟩) (l : Fin 16) :
    concatenate S3x16 0 (rows a b c) concatenates_S1x16_S1x16_S1x16_S3x16_d0 (Shape.pair (d := ![3, 16]) k l) = v (ix1 0) :=
  (concatenate_apply_piece (t := S3x16) 0 (rows a b c) concatenates_S1x16_S1x16_S1x16_S3x16_d0 _ k.val k.isLt S1x16 _ hv rfl k.val
    (by match k with | 0 => rfl | 1 => rfl | 2 => rfl) (ix2 0 l)
    (fun b hb => by match b with | ⟨0, _⟩ => exact absurd rfl hb | ⟨1, _⟩ => rfl) rfl).trans (lanes_apply v l)

/-- So the kernel reads the first weight, -/
theorem wts_zero (l : Fin 16) : weightAt (wts m d) 0 l = m ((SparseCore.T d).loc main_arg1) (ix1 0) := rows_apply _ _ _ _ 0 rfl l

/-- the second -/
theorem wts_one (l : Fin 16) : weightAt (wts m d) 1 l = m ((SparseCore.T d).loc main_arg2) (ix1 0) := rows_apply _ _ _ _ 1 rfl l

/-- and the third. -/
theorem wts_two (l : Fin 16) : weightAt (wts m d) 2 l = m ((SparseCore.T d).loc main_arg3) (ix1 0) := rows_apply _ _ _ _ 2 rfl l

/-- The score of row `R` before the clip. -/
def scoreOf (R : Fin 8192) : EReal :=
  squash (m ((SparseCore.T d).loc main_arg1) (ix1 0)) (m ((SparseCore.T d).loc main_arg2) (ix1 0)) (m ((SparseCore.T d).loc main_arg3) (ix1 0))
    (share (tally (rowWord (m ((SparseCore.T d).loc main_arg0)) R) 0)) (share (tally (rowWord (m ((SparseCore.T d).loc main_arg0)) R) 1))
    (share (tally (rowWord (m ((SparseCore.T d).loc main_arg0)) R) 2))

variable (hx : ∀ i, Gesture (m ((SparseCore.T d).loc main_arg0) i))
include hx

/-- The kernel's chain on a row's sums is that score. -/
theorem logistic_row (R : Fin 8192) (l : Fin 16) :
    logistic (F := Ideal) (weightAt (wts m d) 0 l) (weightAt (wts m d) 1 l) (weightAt (wts m d) 2 l) (rowSum (flat m d) R.val) (rowHalves (flat m d) R.val)
      = scoreOf m d R := by
  rw [wts_zero, wts_one, wts_two, rowSum_flat, rowHalves_flat]
  have hw := rowWord_gesture (m ((SparseCore.T d).loc main_arg0)) hx R
  exact logistic_eq _ _ _ (sum_toInt _ hw) (halves_toInt _ hw) (tally_total _ hw)

/-- The kernel's result of row `R`: in the SparseCores' half or in the TensorCore's, the clipped score. -/
theorem result_apply (R : Fin 8192) :
    result m d (ix2 R 0) = min (Ideal.ofBits .f32 0x3F7FFFFE#32) (max (Ideal.ofBits .f32 0x33D6BF95#32) (scoreOf m d R)) := by
  unfold result
  rw [shapeCast_apply _ _ _ (ix1 R) (by rw [Shape.rowMajor_val_one, Shape.rowMajor_val_two]; simp [ix1, ix2])]
  by_cases h : R.val < 4096
  · refine (concatenate_pair_apply_left (t := S8192) (s₁ := S4096) (s₂ := S4096) 0 _ _ concatenates_S4096_S4096_S8192_d0 _ rfl
      (ix1 (⟨R.val, h⟩ : Fin 4096)) (fun b => by match b with | ⟨0, _⟩ => rfl)).trans ?_
    have e := logistic_row m d hx R ⟨R.val % 16, Nat.mod_lt _ (by decide)⟩
    show min (max (logistic (F := Ideal) (weightAt (wts m d) 0 ⟨R.val % 16, Nat.mod_lt _ (by decide)⟩) (weightAt (wts m d) 1 ⟨R.val % 16, Nat.mod_lt _ (by decide)⟩)
      (weightAt (wts m d) 2 ⟨R.val % 16, Nat.mod_lt _ (by decide)⟩) (rowSum (flat m d) R.val) (rowHalves (flat m d) R.val)) (Ideal.ofBits .f32 0x33D6BF95#32))
      (Ideal.ofBits .f32 0x3F7FFFFE#32) = _
    rw [e, min_comm, max_comm]
  · have hR : 4096 + (R.val - 4096) = R.val := by omega
    refine (concatenate_pair_apply_right (t := S8192) (s₁ := S4096) (s₂ := S4096) 0 _ _ concatenates_S4096_S4096_S8192_d0 _ rfl rfl
      (ix1 (⟨R.val - 4096, by have := R.isLt; omega⟩ : Fin 4096))
      (fun b hb => absurd (Subsingleton.elim (α := Fin 1) _ _) hb) (by show R.val - 4096 + 4096 = R.val; omega)).trans ?_
    have e := logistic_row m d hx R 0
    show min (Ideal.ofBits .f32 0x3F7FFFFE#32) (max (Ideal.ofBits .f32 0x33D6BF95#32) (logistic (F := Ideal) (weightAt (wts m d) 0 0) (weightAt (wts m d) 1 0)
      (weightAt (wts m d) 2 0) (rowSum (flat m d) (4096 + (R.val - 4096))) (rowHalves (flat m d) (4096 + (R.val - 4096))))) = _
    rw [hR, e]

omit hx in
/-- The two programs' results are equal. -/
theorem results_eq (m' : (ℓ : Loc Cert.ReferenceIdeal.nD Cert.ReferenceIdeal.τ Cert.ReferenceIdeal.sig) → Buf (Elt Ideal) ℓ)
    (d : Dev nD) (hx : ∀ i, Gesture (m ((SparseCore.T d).loc main_arg0) i))
    (h0 : m' ((d.tc : Thread Cert.ReferenceIdeal.nD Cert.ReferenceIdeal.τ).loc Cert.ReferenceIdeal.main_arg0) = m ((SparseCore.T d).loc main_arg0))
    (h1 : m' ((d.tc : Thread Cert.ReferenceIdeal.nD Cert.ReferenceIdeal.τ).loc Cert.ReferenceIdeal.main_arg1) = m ((SparseCore.T d).loc main_arg1))
    (h2 : m' ((d.tc : Thread Cert.ReferenceIdeal.nD Cert.ReferenceIdeal.τ).loc Cert.ReferenceIdeal.main_arg2) = m ((SparseCore.T d).loc main_arg2))
    (h3 : m' ((d.tc : Thread Cert.ReferenceIdeal.nD Cert.ReferenceIdeal.τ).loc Cert.ReferenceIdeal.main_arg3) = m ((SparseCore.T d).loc main_arg3)) :
    (Cert.ReferenceIdeal.Value.res_main_v44 m' d : S8192x1.Idx → EReal) = result m d := by
  funext (i : (⟨2, ![8192, 1]⟩ : Shape).Idx)
  have hi : i = ix2 (i 0) 0 := (eq_ix2 i).trans (congrArg (ix2 (i 0)) (Subsingleton.elim (α := Fin 1) _ _))
  have hr := reference_apply m' d (by rw [h0]; exact hx) (i 0)
  rw [h0, h1, h2, h3] at hr
  exact (congrArg (Cert.ReferenceIdeal.Value.res_main_v44 m' d) hi).trans
    (hr.trans ((result_apply m d hx (i 0)).symm.trans (congrArg (result m d) hi.symm)))

end Cert.Proof

end
-- ==== Proof.Frames.lean ====
/-
  The certificate's claims, from the two programs' runs.
-/
module

public import proofs.«01_k».proof.Defs
public import proofs.«01_k».proof.Proof.Gen.Kernel
public import proofs.«01_k».proof.Proof.Scores

@[expose] public section

noncomputable section

namespace Cert.Proof

open Idealize.ShloMosaic Idealize.SL.Sem

/-! ## The kernel and its idealization are one text -/

set_option maxHeartbeats 4000000 in
/-- The two programs' kernels are the same at each label and processor, -/
theorem bodies_eq : Cert.Kernel.defs₀ (F := Bits) = Cert.KernelIdeal.defs₀ (F := Bits) := by
  funext c l a
  match c, l, a with
  | .scVector _ _, 0, _ => rfl
  | .scVector _ _, 1, _ => rfl
  | .tc, 0, _ => rfl
  | .tc, 1, (_, _) => rfl
  | .scScalar _, 0, _ => rfl
  | .scScalar _, 1, _ => rfl

/-- so their body tables are. -/
theorem defs_eq : Cert.Kernel.defs (F := Bits) = Cert.KernelIdeal.defs (F := Bits) :=
  congrArg (fun D => Cert.KernelIdeal.sc.defs (Pipeline.defs Cert.KernelIdeal.pcfgs D)) bodies_eq

/-! ## The frames -/

/-- The kernel at the machine's floats runs, ends with its arguments unchanged and every counter at zero. -/
theorem frame_kernel : Cert.quiescent_Kernel := fun m ρ _ => by
  have h := (θ_run (Cert.KernelIdeal.defs (F := Bits)) (Cert.KernelIdeal.threads (F := Bits)) ⟨m, fun _ => 0, ρ⟩).mono
    (fun r h => (⟨fun c => (h.1 c).2, h.2⟩ : (∀ c : Dev Cert.KernelIdeal.nD, _) ∧ r.2.sem = fun _ => 0)) (run_main (F := Bits) m ρ)
  rw [← defs_eq] at h
  exact h

/-- The kernel at exact reals likewise. -/
theorem frame_ideal : Cert.quiescent_KernelIdeal := fun m ρ _ =>
  (θ_run Cert.KernelIdeal.defs _ _).mono (fun _ h => ⟨fun c => (h.1 c).2, h.2⟩) (run_main (F := Ideal) m ρ)

/-- The reference's run changes no argument; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- On gestures of 0, 1 and 2 the kernel and the reference end with equal results. -/
theorem algebraic : Cert.algebraic_KernelIdeal_ReferenceIdeal_pre_gestures := fun m ρ m' ρ' hpre hagree =>
  ⟨fun c => result (F := Ideal) m c,
    (θ_run Cert.KernelIdeal.defs _ _).mono (fun _ h c => h.1 c) (run_main (F := Ideal) m ρ),
    (θ_run Cert.ReferenceIdeal.defs _ _).mono
      (fun _ h c => ⟨(h c).1.trans (results_eq m m' c (gesture_of_pre _ _ _ _ (hpre c)) (hagree c).1 (hagree c).2.1 (hagree c).2.2.1 (hagree c).2.2.2), (h c).2⟩)
      (Cert.ReferenceIdeal.Value.run (F := Ideal) m' ρ')⟩

end Cert.Proof

end
-- ==== Proof.lean ====
/-
  The certificate: the programs' stated facts, and the claims proved in Proof/Frames.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_gestures
public import proofs.«01_k».proof.Proof.Frames
public import Idealize.ShloMosaic.Adequacy
public import Idealize.ShloMosaic.Init

@[expose] public section

noncomputable section

namespace Cert.Proof

open Idealize.ShloMosaic Idealize.SL.Sem Cert.Kernel

/-- Everything stated of the kernel. -/
theorem claim : Cert.Claim :=
  ⟨Cert.Kernel.Gen.facts, Cert.KernelIdeal.Gen.facts, Cert.ReferenceIdeal.Gen.facts, Cert.Pre_gestures.Gen.facts,
    frame_kernel, frame_ideal, fun m ρ _ => frame_ideal m ρ trivial, frame_reference, fun m ρ _ => frame_reference m ρ trivial,
    trivial, algebraic⟩

end Cert.Proof

end
